-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_cayley_arguments [hPre_cayley_arguments : Cert.Pre_cayley_arguments.Facts] (m : (ℓ : Loc Cert.KernelIdeal.nD Cert.KernelIdeal.τ Cert.KernelIdeal.sig) → Buf (Elt Ideal) ℓ) : Prop :=
  ∀ c : Dev Cert.KernelIdeal.nD,
    (Cert.Pre_cayley_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_cayley_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_cayley_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_cayley_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_cayley_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_cayley_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_cayley_arguments [hPre_cayley_arguments : Cert.Pre_cayley_arguments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_cayley_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_cayley_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_cayley_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_cayley_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_cayley_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_cayley_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_cayley_arguments [hKernelIdeal : Cert.KernelIdeal.Facts] [hPre_cayley_arguments : Cert.Pre_cayley_arguments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_cayley_arguments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_cayley_arguments [hReferenceIdeal : Cert.ReferenceIdeal.Facts] [hPre_cayley_arguments : Cert.Pre_cayley_arguments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_cayley_arguments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_cayley_arguments [hKernelIdeal : Cert.KernelIdeal.Facts] [hReferenceIdeal : Cert.ReferenceIdeal.Facts] [hPre_cayley_arguments : Cert.Pre_cayley_arguments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_cayley_arguments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_cayley_arguments : Cert.Pre_cayley_arguments.Facts),
    quiescent_Kernel (hKernel := hKernel)
    ∧ quiescent_KernelIdeal (hKernelIdeal := hKernelIdeal)
    ∧ quiescent_KernelIdeal_pre_cayley_arguments (hKernelIdeal := hKernelIdeal) (hPre_cayley_arguments := hPre_cayley_arguments)
    ∧ quiescent_ReferenceIdeal (hReferenceIdeal := hReferenceIdeal)
    ∧ quiescent_ReferenceIdeal_pre_cayley_arguments (hReferenceIdeal := hReferenceIdeal) (hPre_cayley_arguments := hPre_cayley_arguments)
    ∧ preserves_Kernel_KernelIdeal
    ∧ algebraic_KernelIdeal_ReferenceIdeal_pre_cayley_arguments (hKernelIdeal := hKernelIdeal) (hReferenceIdeal := hReferenceIdeal) (hPre_cayley_arguments := hPre_cayley_arguments)
-- ==== Pre_cayley_arguments.lean ====
abbrev S512x256 : Shape := ⟨2, ![512, 256]⟩
abbrev S65536 : Shape := ⟨1, ![65536]⟩
abbrev S_ : Shape := ⟨0, ![]⟩

class Facts : Prop where
  bcast_S_S65536 : S_.BroadcastsInDim S65536 (![] : Fin 0 → Fin S65536.rank)
  bcast_S_S512x256 : S_.BroadcastsInDim S512x256 (![] : Fin 0 → Fin S512x256.rank)

variable [Facts]

def fn_where {F : FTy → Type} [FloatOps F] (arg0 : IVec S65536 1) (arg1 : FVec F S_ .f32) (arg2 : FVec F S_ .f32) : FVec F S65536 .f32 :=
  let v0 : FVec F S65536 .f32 := broadcastInDim S65536 ![] bcast_S_S65536 arg1
  let v1 : FVec F S65536 .f32 := broadcastInDim S65536 ![] bcast_S_S65536 arg2
  let v2 : FVec F S65536 .f32 := select arg0 v0 v1
  v2

def fn_part3 {F : FTy → Type} [FloatOps F] (main_arg4 : IVec S65536 32) (main_arg5 : FVec F S65536 .f32) (main_v2 : IVec S65536 32) (main_v4 : IVec S65536 32) (main_v47 : FVec F S65536 .f32) (main_v50 : IVec S512x256 1) (main_v53 : IVec S512x256 1) (main_v54 : IVec S65536 1) (main_v55 : IVec S65536 1) : IVec S512x256 1 × IVec S512x256 1 × IVec S65536 1 × IVec S65536 1 × IVec S65536 1 × IVec S65536 1 :=
  let main_v56 : IVec S65536 32 := xori main_v2 main_v4
  let main_v57 : IVec S65536 1 := cmpi .eq main_arg4 main_v56
  let main_v58 : IVec S65536 1 := cmpf .oeq main_arg5 main_v47
  (main_v50, main_v53, main_v54, main_v55, main_v57, main_v58)

def fn_part2 {F : FTy → Type} [FloatOps F] (main_arg0 : FVec F S512x256 .f32) (main_arg1 : FVec F S512x256 .f32) (main_arg2 : IVec S65536 32) (main_arg3 : IVec S65536 32) (main_arg4 : IVec S65536 32) (main_arg5 : FVec F S65536 .f32) (main_v2 : IVec S65536 32) (main_v4 : IVec S65536 32) (main_v37 : IVec S65536 32) (main_c_8 : IVec S_ 32) : IVec S512x256 1 × IVec S512x256 1 × IVec S65536 1 × IVec S65536 1 × IVec S65536 1 × IVec S65536 1 :=
  let main_v38 : IVec S65536 32 := broadcastInDim S65536 ![] bcast_S_S65536 main_c_8
  let main_v39 : IVec S65536 32 := Host.shrsi main_v2 main_v38
  let main_v40 : IVec S65536 32 := andi main_v39 main_v4
  let main_v41 : IVec S65536 32 := ctpop main_v40
  let main_v42 : IVec S65536 32 := addi main_v37 main_v41
  let main_c_9 : IVec S_ 32 := constantI S_ 32 1#32
  let main_v43 : IVec S65536 32 := broadcastInDim S65536 ![] bcast_S_S65536 main_c_9
  let main_v44 : IVec S65536 32 := andi main_v42 main_v43
  let main_c_10 : IVec S_ 32 := constantI S_ 32 1#32
  let main_v45 : IVec S65536 32 := broadcastInDim S65536 ![] bcast_S_S65536 main_c_10
  let main_v46 : IVec S65536 1 := cmpi .eq main_v44 main_v45
  let main_cst : FVec F S_ .f32 := constant S_ .f32 0xBF800000#32
  let main_cst_11 : FVec F S_ .f32 := constant S_ .f32 0x3F800000#32
  let main_v47 : FVec F S65536 .f32 := fn_where (F := F) main_v46 main_cst main_cst_11
  let main_v48 : FVec F S512x256 .f32 := Host.absf main_arg0
  let main_cst_12 : FVec F S_ .f32 := constant S_ .f32 0x7F800000#32
  let main_v49 : FVec F S512x256 .f32 := broadcastInDim S512x256 ![] bcast_S_S512x256 main_cst_12
  let main_v50 : IVec S512x256 1 := cmpf .olt main_v48 main_v49
  let main_v51 : FVec F S512x256 .f32 := Host.absf main_arg1
  let main_cst_13 : FVec F S_ .f32 := constant S_ .f32 0x7F800000#32
  let main_v52 : FVec F S512x256 .f32 := broadcastInDim S512x256 ![] bcast_S_S512x256 main_cst_13
  let main_v53 : IVec S512x256 1 := cmpf .olt main_v51 main_v52
  let main_v54 : IVec S65536 1 := cmpi .eq main_arg2 main_v2
  let main_v55 : IVec S65536 1 := cmpi .eq main_arg3 main_v4
  fn_part3 (F := F) main_arg4 main_arg5 main_v2 main_v4 main_v47 main_v50 main_v53 main_v54 main_v55

def fn_part1 {F : FTy → Type} [FloatOps F] (main_arg0 : FVec F S512x256 .f32) (main_arg1 : FVec F S512x256 .f32) (main_arg2 : IVec S65536 32) (main_arg3 : IVec S65536 32) (main_arg4 : IVec S65536 32) (main_arg5 : FVec F S65536 .f32) (main_v2 : IVec S65536 32) (main_v4 : IVec S65536 32) (main_v17 : IVec S65536 32) (main_c_4 : IVec S_ 32) : IVec S512x256 1 × IVec S512x256 1 × IVec S65536 1 × IVec S65536 1 × IVec S65536 1 × IVec S65536 1 :=
  let main_v18 : IVec S65536 32 := broadcastInDim S65536 ![] bcast_S_S65536 main_c_4
  let main_v19 : IVec S65536 32 := Host.shrsi main_v2 main_v18
  let main_v20 : IVec S65536 32 := andi main_v19 main_v4
  let main_v21 : IVec S65536 32 := ctpop main_v20
  let main_v22 : IVec S65536 32 := addi main_v17 main_v21
  let main_c_5 : IVec S_ 32 := constantI S_ 32 4#32
  let main_v23 : IVec S65536 32 := broadcastInDim S65536 ![] bcast_S_S65536 main_c_5
  let main_v24 : IVec S65536 32 := Host.shrsi main_v2 main_v23
  let main_v25 : IVec S65536 32 := andi main_v24 main_v4
  let main_v26 : IVec S65536 32 := ctpop main_v25
  let main_v27 : IVec S65536 32 := addi main_v22 main_v26
  let main_c_6 : IVec S_ 32 := constantI S_ 32 5#32
  let main_v28 : IVec S65536 32 := broadcastInDim S65536 ![] bcast_S_S65536 main_c_6
  let main_v29 : IVec S65536 32 := Host.shrsi main_v2 main_v28
  let main_v30 : IVec S65536 32 := andi main_v29 main_v4
  let main_v31 : IVec S65536 32 := ctpop main_v30
  let main_v32 : IVec S65536 32 := addi main_v27 main_v31
  let main_c_7 : IVec S_ 32 := constantI S_ 32 6#32
  let main_v33 : IVec S65536 32 := broadcastInDim S65536 ![] bcast_S_S65536 main_c_7
  let main_v34 : IVec S65536 32 := Host.shrsi main_v2 main_v33
  let main_v35 : IVec S65536 32 := andi main_v34 main_v4
  let main_v36 : IVec S65536 32 := ctpop main_v35
  let main_v37 : IVec S65536 32 := addi main_v32 main_v36
  let main_c_8 : IVec S_ 32 := constantI S_ 32 7#32
  fn_part2 (F := F) main_arg0 main_arg1 main_arg2 main_arg3 main_arg4 main_arg5 main_v2 main_v4 main_v37 main_c_8

def fn {F : FTy → Type} [FloatOps F] (main_arg0 : FVec F S512x256 .f32) (main_arg1 : FVec F S512x256 .f32) (main_arg2 : IVec S65536 32) (main_arg3 : IVec S65536 32) (main_arg4 : IVec S65536 32) (main_arg5 : FVec F S65536 .f32) : IVec S512x256 1 × IVec S512x256 1 × IVec S65536 1 × IVec S65536 1 × IVec S65536 1 × IVec S65536 1 :=
  let main_v0 : IVec S65536 32 := iotaInDim S65536 32 0
  let main_c : IVec S_ 32 := constantI S_ 32 8#32
  let main_v1 : IVec S65536 32 := broadcastInDim S65536 ![] bcast_S_S65536 main_c
  let main_v2 : IVec S65536 32 := Host.shrsi main_v0 main_v1
  let main_c_0 : IVec S_ 32 := constantI S_ 32 255#32
  let main_v3 : IVec S65536 32 := broadcastInDim S65536 ![] bcast_S_S65536 main_c_0
  let main_v4 : IVec S65536 32 := andi main_v0 main_v3
  let main_v5 : IVec S65536 32 := andi main_v2 main_v4
  let main_c_1 : IVec S_ 32 := constantI S_ 32 7#32
  let main_v6 : IVec S65536 32 := broadcastInDim S65536 ![] bcast_S_S65536 main_c_1
  let main_v7 : IVec S65536 32 := Host.shrsi main_v5 main_v6
  let main_c_2 : IVec S_ 32 := constantI S_ 32 1#32
  let main_v8 : IVec S65536 32 := broadcastInDim S65536 ![] bcast_S_S65536 main_c_2
  let main_v9 : IVec S65536 32 := Host.shrsi main_v2 main_v8
  let main_v10 : IVec S65536 32 := andi main_v9 main_v4
  let main_v11 : IVec S65536 32 := ctpop main_v10
  let main_v12 : IVec S65536 32 := addi main_v7 main_v11
  let main_c_3 : IVec S_ 32 := constantI S_ 32 2#32
  let main_v13 : IVec S65536 32 := broadcastInDim S65536 ![] bcast_S_S65536 main_c_3
  let main_v14 : IVec S65536 32 := Host.shrsi main_v2 main_v13
  let main_v15 : IVec S65536 32 := andi main_v14 main_v4
  let main_v16 : IVec S65536 32 := ctpop main_v15
  let main_v17 : IVec S65536 32 := addi main_v12 main_v16
  let main_c_4 : IVec S_ 32 := constantI S_ 32 3#32
  fn_part1 (F := F) main_arg0 main_arg1 main_arg2 main_arg3 main_arg4 main_arg5 main_v2 main_v4 main_v17 main_c_4
-- ==== Kernel.lean ====
abbrev S512x256 : Shape := ⟨2, ![512, 256]⟩
abbrev S65536 : Shape := ⟨1, ![65536]⟩
abbrev S256x256 : Shape := ⟨2, ![256, 256]⟩
abbrev S4x8x8x256 : Shape := ⟨4, ![4, 8, 8, 256]⟩
abbrev S1x8x8x256 : Shape := ⟨4, ![1, 8, 8, 256]⟩
abbrev S8x8x256 : Shape := ⟨3, ![8, 8, 256]⟩
abbrev S1x1x8x256 : Shape := ⟨4, ![1, 1, 8, 256]⟩
abbrev S8x256 : Shape := ⟨2, ![8, 256]⟩
abbrev S8x1x256 : Shape := ⟨3, ![8, 1, 256]⟩

abbrev nBuf : Space → Nat
  | .hbm => 8
  | .vmem => 7
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S65536, .i32⟩
  | .hbm, ⟨3, _⟩ => ⟨S65536, .i32⟩
  | .hbm, ⟨4, _⟩ => ⟨S65536, .i32⟩
  | .hbm, ⟨5, _⟩ => ⟨S65536, .f32⟩
  | .hbm, ⟨6, _⟩ => ⟨S256x256, .f32⟩
  | .hbm, ⟨7, _⟩ => ⟨S512x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S512x256 : Shape := ⟨2, ![512, 256]⟩
abbrev S65536 : Shape := ⟨1, ![65536]⟩
abbrev S_ : Shape := ⟨0, ![]⟩
abbrev S65536x1 : Shape := ⟨2, ![65536, 1]⟩
abbrev S1 : Shape := ⟨1, ![1]⟩
abbrev S1x1 : Shape := ⟨2, ![1, 1]⟩
abbrev S512x65536 : Shape := ⟨2, ![512, 65536]⟩
abbrev S1x65536 : Shape := ⟨2, ![1, 65536]⟩

abbrev nBuf : Space → Nat
  | .hbm => 67
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S65536, .i32⟩
  | .hbm, ⟨3, _⟩ => ⟨S65536, .i32⟩
  | .hbm, ⟨4, _⟩ => ⟨S65536, .i32⟩
  | .hbm, ⟨5, _⟩ => ⟨S65536, .f32⟩
  | .hbm, ⟨6, _⟩ => ⟨S_, .i32⟩
  | .hbm, ⟨7, _⟩ => ⟨S65536, .i32⟩
  | .hbm, ⟨8, _⟩ => ⟨S65536, .i1⟩
  | .hbm, ⟨9, _⟩ => ⟨S_, .i32⟩
  | .hbm, ⟨10, _⟩ => ⟨S65536, .i32⟩
  | .hbm, ⟨11, _⟩ => ⟨S65536, .i32⟩
  | .hbm, ⟨12, _⟩ => ⟨S65536, .i32⟩
  | .hbm, ⟨13, _⟩ => ⟨S65536x1, .i32⟩
  | .hbm, ⟨14, _⟩ => ⟨S1, .i32⟩
  | .hbm, ⟨15, _⟩ => ⟨S_, .i32⟩
  | .hbm, ⟨16, _⟩ => ⟨S65536x1, .i32⟩
  | .hbm, ⟨17, _⟩ => ⟨S65536x1, .i1⟩
  | .hbm, ⟨18, _⟩ => ⟨S1x1, .i32⟩
  | .hbm, ⟨19, _⟩ => ⟨S65536x1, .i32⟩
  | .hbm, ⟨20, _⟩ => ⟨S65536x1, .i1⟩
  | .hbm, ⟨21, _⟩ => ⟨S65536x1, .i1⟩
  | .hbm, ⟨22, _⟩ => ⟨S_, .i1⟩
  | .hbm, ⟨23, _⟩ => ⟨S65536, .i1⟩
  | .hbm, ⟨24, _⟩ => ⟨S512x65536, .f32⟩
  | .hbm, ⟨25, _⟩ => ⟨S512x65536, .i1⟩
  | .hbm, ⟨26, _⟩ => ⟨S_, .f32⟩
  | .hbm, ⟨27, _⟩ => ⟨S512x65536, .f32⟩
  | .hbm, ⟨28, _⟩ => ⟨S512x65536, .f32⟩
  | .hbm, ⟨29, _⟩ => ⟨S_, .i32⟩
  | .hbm, ⟨30, _⟩ => ⟨S65536, .i32⟩
  | .hbm, ⟨31, _⟩ => ⟨S65536, .i1⟩
  | .hbm, ⟨32, _⟩ => ⟨S_, .i32⟩
  | .hbm, ⟨33, _⟩ => ⟨S65536, .i32⟩
  | .hbm, ⟨34, _⟩ => ⟨S65536, .i32⟩
  | .hbm, ⟨35, _⟩ => ⟨S65536, .i32⟩
  | .hbm, ⟨36, _⟩ => ⟨S65536x1, .i32⟩
  | .hbm, ⟨37, _⟩ => ⟨S1, .i32⟩
  | .hbm, ⟨38, _⟩ => ⟨S_, .i32⟩
  | .hbm, ⟨39, _⟩ => ⟨S65536x1, .i32⟩
  | .hbm, ⟨40, _⟩ => ⟨S65536x1, .i1⟩
  | .hbm, ⟨41, _⟩ => ⟨S1x1, .i32⟩
  | .hbm, ⟨42, _⟩ => ⟨S65536x1, .i32⟩
  | .hbm, ⟨43, _⟩ => ⟨S65536x1, .i1⟩
  | .hbm, ⟨44, _⟩ => ⟨S65536x1, .i1⟩
  | .hbm, ⟨45, _⟩ => ⟨S_, .i1⟩
  | .hbm, ⟨46, _⟩ => ⟨S65536, .i1⟩
  | .hbm, ⟨47, _⟩ => ⟨S512x65536, .f32⟩
  | .hbm, ⟨48, _⟩ => ⟨S512x65536, .i1⟩
  | .hbm, ⟨49, _⟩ => ⟨S_, .f32⟩
  | .hbm, ⟨50, _⟩ => ⟨S512x65536, .f32⟩
  | .hbm, ⟨51, _⟩ => ⟨S512x65536, .f32⟩
  | .hbm, ⟨52, _⟩ => ⟨S1x65536, .f32⟩
  | .hbm, ⟨53, _⟩ => ⟨S512x65536, .f32⟩
  | .hbm, ⟨54, _⟩ => ⟨S512x65536, .f32⟩
  | .hbm, ⟨55, _⟩ => ⟨S512x65536, .f32⟩
  | .hbm, ⟨56, _⟩ => ⟨S_, .f32⟩
  | .hbm, ⟨57, _⟩ => ⟨S512x256, .f32⟩
  | .hbm, ⟨58, _⟩ => ⟨S_, .i32⟩
  | .hbm, ⟨59, _⟩ => ⟨S65536, .i32⟩
  | .hbm, ⟨60, _⟩ => ⟨S65536, .i1⟩
  | .hbm, ⟨61, _⟩ => ⟨S_, .i32⟩
  | .hbm, ⟨62, _⟩ => ⟨S65536, .i32⟩
  | .hbm, ⟨63, _⟩ => ⟨S65536, .i32⟩
  | .hbm, ⟨64, _⟩ => ⟨S65536, .i32⟩
  | .hbm, ⟨65, _⟩ => ⟨S65536x1, .i32⟩
  | .hbm, ⟨66, _⟩ => ⟨S512x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v1 : Ref sig .tc := ⟨.hbm, 51, rfl⟩
abbrev main_v2 : Ref sig .tc := ⟨.hbm, 52, rfl⟩
abbrev main_v3 : Ref sig .tc := ⟨.hbm, 53, rfl⟩
abbrev main_v4 : Ref sig .tc := ⟨.hbm, 54, rfl⟩
abbrev main_v5 : Ref sig .tc := ⟨.hbm, 55, rfl⟩
abbrev main_cst : Ref sig .tc := ⟨.hbm, 56, rfl⟩
abbrev main_v6 : Ref sig .tc := ⟨.hbm, 57, rfl⟩
abbrev main_c : Ref sig .tc := ⟨.hbm, 58, rfl⟩
abbrev main_v7 : Ref sig .tc := ⟨.hbm, 59, rfl⟩
abbrev main_v8 : Ref sig .tc := ⟨.hbm, 60, rfl⟩
abbrev main_c_0 : Ref sig .tc := ⟨.hbm, 61, rfl⟩
abbrev main_v9 : Ref sig .tc := ⟨.hbm, 62, rfl⟩
abbrev main_v10 : Ref sig .tc := ⟨.hbm, 63, rfl⟩
abbrev main_v11 : Ref sig .tc := ⟨.hbm, 64, rfl⟩
abbrev main_v12 : Ref sig .tc := ⟨.hbm, 65, rfl⟩
abbrev main_v13 : Ref sig .tc := ⟨.hbm, 66, rfl⟩

abbrev nD : Nat := 1
abbrev τ : Topo := Topo.v7x

variable {F : FTy → Type} [FloatOps F]
-- ==== Proof.Body.lean ====
module

public import proofs.«01_k».proof.Proof.Gen.KernelIdeal.Frame
public import Idealize.ShloMosaic.Lib.Pointwise
public import Idealize.ShloMosaic.Lib.Pipeline.Value

/-!
What one block of the kernel computes, written once per kind of row instead of row by row.

The two blocks of coefficients are taken through the constant table to stacks of four 8 by 8
matrices (`stack`), the matrices are multiplied as matrices of quaternions, 32 pieces of eight
rows each (`piece`), and the pieces laid end to end are taken back through the table and scaled
(`out_eq`).
-/

@[expose] public section

set_option maxRecDepth 16384

noncomputable section

namespace Cert.KernelIdeal.Body

open Idealize.ShloMosaic Cert.KernelIdeal Cert.KernelIdeal.Gen

variable {F : FTy → Type} [FloatOps F]

/-- A single row of one matrix of a stack can be cut out. -/
theorem slices_row : ∀ (u : Fin 4) (r : Fin 8),
    S4x8x8x256.Slices ![u.val, r.val, 0, 0] S1x1x8x256 := by decide

/-- One matrix of a stack can be cut out. -/
theorem slices_plane : ∀ u : Fin 4, S4x8x8x256.Slices ![u.val, 0, 0, 0] S1x8x8x256 := by decide

/-- A block of coefficients taken through the table: for each quaternion unit an 8 by 8 matrix of
values along the block's rows. -/
def stack (x e : Vec F S256x256 .f32) : FVec F S4x8x8x256 .f32 :=
  shapeCast S4x8x8x256 (matmul dot_S256x256_S256x256_S256x256_1_1_0_0_n_n none e x
    (constant S256x256 .f32 0x00000000#32)) shapeCasts_S256x256_S4x8x8x256

/-- Row `r` of the stack's matrix of unit `u`, repeated along the columns to be multiplied. -/
def row (s : FVec F S4x8x8x256 .f32) (u : Fin 4) (r : Fin 8) : FVec F S8x8x256 .f32 :=
  broadcastTo S8x8x256 (shapeCast S8x1x256 (shapeCast S8x256
    (extractStridedSlice S1x1x8x256 ![u.val, r.val, 0, 0] s (slices_row u r))
    shapeCasts_S1x1x8x256_S8x256) shapeCasts_S8x256_S8x1x256) broadcasts_S8x1x256_S8x8x256

/-- The stack's matrix of unit `u`. -/
def plane (s : FVec F S4x8x8x256 .f32) (u : Fin 4) : FVec F S8x8x256 .f32 :=
  shapeCast S8x8x256 (extractStridedSlice S1x8x8x256 ![u.val, 0, 0, 0] s (slices_plane u))
    shapeCasts_S1x8x8x256_S8x8x256

/-- The terms of row `r` of the product matrix of unit `q`, before they are added up along the
contracted axis: the four products of units that make unit `q`, with their signs. -/
def terms (s t : FVec F S4x8x8x256 .f32) (q : Fin 4) (r : Fin 8) : FVec F S8x8x256 .f32 :=
  match q with
  | 0 => subf (subf (subf (mulf (row s 0 r) (plane t 0)) (mulf (row s 1 r) (plane t 1)))
      (mulf (row s 2 r) (plane t 2))) (mulf (row s 3 r) (plane t 3))
  | 1 => subf (addf (addf (mulf (row s 0 r) (plane t 1)) (mulf (row s 1 r) (plane t 0)))
      (mulf (row s 2 r) (plane t 3))) (mulf (row s 3 r) (plane t 2))
  | 2 => addf (addf (subf (mulf (row s 0 r) (plane t 2)) (mulf (row s 1 r) (plane t 3)))
      (mulf (row s 2 r) (plane t 0))) (mulf (row s 3 r) (plane t 1))
  | 3 => addf (subf (addf (mulf (row s 0 r) (plane t 3)) (mulf (row s 1 r) (plane t 2)))
      (mulf (row s 2 r) (plane t 1))) (mulf (row s 3 r) (plane t 0))

/-- Row `r` of the product matrix of unit `q`. -/
def piece (s t : FVec F S4x8x8x256 .f32) (q : Fin 4) (r : Fin 8) : FVec F S8x256 .f32 :=
  multiReduction .add [0] S8x256 (terms s t q r) 0x00000000#32 reduces_S8x8x256_S8x256
    (.inl rfl) rfl

/-- The 32 pieces in the order the kernel lays them: unit by unit, row by row. -/
def pieces (s t : FVec F S4x8x8x256 .f32) (n : Fin 32) : FVec F S8x256 .f32 :=
  piece s t ⟨n.val / 8, by omega⟩ ⟨n.val % 8, by omega⟩

/-- The product matrices, one entry per row. -/
def product (s t : FVec F S4x8x8x256 .f32) : FVec F S256x256 .f32 :=
  concatenate S256x256 0 (List.ofFn fun n : Fin 32 => (⟨S8x256, pieces s t n⟩ : (s : Shape) × (s.Idx → F .f32)))
    concatenates_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S256x256_d0

/-- What one block of the kernel computes from its blocks of coefficients and the table. -/
def out (x y e : Vec F S256x256 .f32) : FVec F S256x256 .f32 :=
  mulf (matmul dot_S256x256_S256x256_S256x256_0_0_1_1_n_n none (product (stack x e) (stack y e)) e
    (constant S256x256 .f32 0x00000000#32)) (broadcast S256x256 (Scalar.ofBits .f32 0x3E000000#32))

/-- The offsets of a whole block are all zero. -/
theorem offsets_zero : (![0, 0] : Fin 2 → Nat) = fun _ => 0 := funext fun a => by fin_cases a <;> rfl

/-- What the kernel's body leaves in the output's block is `out` of its three input blocks. -/
theorem out_eq (x y e : Vec F S256x256 .f32) : out0_3 x y e = out x y e := by
  unfold out0_3
  rw [View.canon_unit_zero offsets_zero]
  simp only [k0_pay77, k0_pay78, k0_pay79, k0_pay80, k0_pay81, k0_pay82, k0_pay83, k0_pay84, k0_pay85,
    k0_pay86, k0_pay87, k0_pay88, k0_pay89, k0_pay90, k0_pay91, k0_pay92, k0_pay93,
    k0_pay94, k0_pay95, k0_pay96, k0_pay97, k0_pay98, k0_pay99, k0_pay100, k0_pay101,
    k0_pay102, k0_pay103, k0_pay104, k0_pay105, k0_pay106, k0_pay107, k0_pay108, k0_pay109]
  simp only [View.ld_unit_zero (S := S256x256) offsets_zero]
  rfl

end Cert.KernelIdeal.Body

end
-- ==== Proof.BodyIdeal.lean ====
module

public import proofs.«01_k».proof.Proof.Body
public import Idealize.ShloMosaic.Lib.ValueIdx
public import Idealize.ShloMosaic.Lib.IdealHost

/-!
What one block of the kernel computes over the extended reals, entry by entry.
-/

@[expose] public section

set_option maxRecDepth 16384

noncomputable section

namespace Cert.KernelIdeal.Body

open Idealize.ShloMosaic Cert.KernelIdeal Cert.KernelIdeal.Gen

/-- The row of the table that belongs to unit `u`, matrix row `r` and matrix column `c`. -/
def place (u : Fin 4) (r c : Fin 8) : Fin 256 := ⟨u.val * 64 + r.val * 8 + c.val, by omega⟩

/-- An entry of the stack of a block: the table's row times the block's row. -/
theorem stack_apply (x e : Vec Ideal S256x256 .f32) (u : Fin 4) (r c : Fin 8) (n : Fin 256) :
    stack x e (ix4 u r c n) = ∑ i : Fin 256, e (ix2 (place u r c) i) * x (ix2 n i) := by
  unfold stack
  pointwise
  rfl

/-- An entry of a repeated row. -/
theorem row_apply (s : FVec Ideal S4x8x8x256 .f32) (u : Fin 4) (r c t : Fin 8) (n : Fin 256) :
    row s u r (ix3 c t n) = s (ix4 u r c n) := by
  unfold row
  pointwise

/-- An entry of a matrix of a stack. -/
theorem plane_apply (s : FVec Ideal S4x8x8x256 .f32) (u : Fin 4) (r c : Fin 8) (n : Fin 256) :
    plane s u (ix3 r c n) = s (ix4 u r c n) := by
  unfold plane
  pointwise

/-- An entry of a piece: the sum of the terms along the contracted axis. -/
theorem piece_apply (s t : FVec Ideal S4x8x8x256 .f32) (q : Fin 4) (r c : Fin 8) (n : Fin 256) :
    piece s t q r (ix2 c n) = ∑ d : Fin 8, terms s t q r (ix3 d c n) := by
  unfold piece
  pointwise

/-- A row of the product is a row of one piece. -/
theorem product_apply (s t : FVec Ideal S4x8x8x256 .f32) (q : Fin 4) (r c : Fin 8) (n : Fin 256) :
    product s t (ix2 (place q r c) n) = piece s t q r (ix2 c n) := by
  unfold product
  refine (concatenate_ofFn_apply (t := S256x256) (s₁ := S8x256) 0 (pieces s t) _ rfl 8 rfl _
    (⟨8 * q.val + r.val, by omega⟩ : Fin 32) ?_ (ix2 c n) ?_ ?_).trans ?_
  · show (q.val * 64 + r.val * 8 + c.val) / 8 = 8 * q.val + r.val
    omega
  · show c.val = (q.val * 64 + r.val * 8 + c.val) % 8
    omega
  · intro b hb
    fin_cases b
    · exact absurd rfl hb
    · rfl
  · unfold pieces
    congr 1 <;> apply Fin.ext <;> simp <;> omega

/-- An entry of the block: the product's column against the table's column, scaled. -/
theorem out_apply (x y e : Vec Ideal S256x256 .f32) (n k : Fin 256) :
    out x y e (ix2 n k) = (∑ p : Fin 256, product (stack x e) (stack y e) (ix2 p n) * e (ix2 p k)) *
      Ideal.ofBits .f32 0x3E000000#32 := by
  unfold out
  pointwise

end Cert.KernelIdeal.Body

end
-- ==== Proof.Blades.lean ====
module

public import Mathlib.Data.Nat.Bitwise

/-!
The bit formulas behind the 256 basis blades of the Clifford algebra with eight generators.

A blade is a number below 256 whose bits name the generators in it.  In the matrix representation
the kernel uses, blade `i` is a signed permutation of 8 rows whose entries all carry one
quaternion unit: row `r` has its only non-zero entry in column `r xor shift i`, the unit there is
number `unit i` (0 the real one), and the entry is minus one exactly when `flip i r = 1`.
-/

@[expose] public section

set_option maxRecDepth 16384

namespace Cert.Blades

/-- The parity of the three lowest bits of `n`. -/
def parity3 (n : ℕ) : ℕ := (n ^^^ n >>> 1 ^^^ n >>> 2) &&& 1

/-- The parity of the eight lowest bits of `n`. -/
def parity8 (n : ℕ) : ℕ :=
  (n ^^^ n >>> 1 ^^^ n >>> 2 ^^^ n >>> 3 ^^^ n >>> 4 ^^^ n >>> 5 ^^^ n >>> 6 ^^^ n >>> 7) &&& 1

/-- How far blade `i` moves the rows: its entry of row `r` stands in column `r xor shift i`. -/
def shift (i : ℕ) : ℕ :=
  ((i ^^^ i >>> 2 ^^^ i >>> 3 ^^^ i >>> 4) &&& 1) +
    2 * ((i >>> 5 ^^^ i >>> 7) &&& 1) + 4 * (i >>> 6 &&& 1)

/-- The quaternion unit all entries of blade `i` carry: 0 the real one, 1, 2, 3 the others. -/
def unit (i : ℕ) : ℕ :=
  ((i >>> 2 ^^^ i >>> 4) &&& 1) + 2 * ((i >>> 3 ^^^ i >>> 4) &&& 1)

/-- The bits of the row number on which the sign of blade `i` depends. -/
def mask (i : ℕ) : ℕ :=
  ((i >>> 1 ^^^ i >>> 2 ^^^ i >>> 3 ^^^ i >>> 4) &&& 1) +
    2 * ((i ^^^ i >>> 1 ^^^ i >>> 2 ^^^ i >>> 3 ^^^ i >>> 4 ^^^ i >>> 7) &&& 1) +
    4 * ((i ^^^ i >>> 1 ^^^ i >>> 2 ^^^ i >>> 3 ^^^ i >>> 4 ^^^ i >>> 5 ^^^ i >>> 7) &&& 1)

/-- Whether blade `i` is negative in row 0. -/
def flip0 (i : ℕ) : ℕ :=
  (i >>> 2 ^^^ i >>> 3 ^^^ i >>> 4 ^^^ i >>> 7 ^^^ (i &&& i >>> 1) ^^^ (i &&& i >>> 2) ^^^
    (i &&& i >>> 3) ^^^ (i >>> 2 &&& i >>> 3) ^^^ (i &&& i >>> 4) ^^^ (i >>> 3 &&& i >>> 4) ^^^
    (i >>> 5 &&& i >>> 7) ^^^ (i >>> 6 &&& i >>> 7)) &&& 1

/-- Whether blade `i`'s entry in row `r` is minus one. -/
def flip (i r : ℕ) : ℕ := flip0 i ^^^ parity3 (mask i &&& r)

/-- Whether the product of the quaternion units `u` and `v` (which is, up to sign, the unit
`u xor v`) is negative. -/
def unitFlip (u v : ℕ) : ℕ := (50848 >>> (4 * u + v)) &&& 1

/-- Whether the product of the blades `i` and `j` (which is, up to sign, the blade `i xor j`) is
negative: the parity of the generators to be moved past one another, and of the last generator,
whose square is minus one, standing in both. -/
def negative (i j : ℕ) : ℕ :=
  ((i &&& j) >>> 7 ^^^ parity8 (i >>> 1 &&& j) ^^^ parity8 (i >>> 2 &&& j) ^^^
    parity8 (i >>> 3 &&& j) ^^^ parity8 (i >>> 4 &&& j) ^^^ parity8 (i >>> 5 &&& j) ^^^
    parity8 (i >>> 6 &&& j) ^^^ parity8 (i >>> 7 &&& j)) &&& 1

/-- A function of numbers below 256 that respects xor on the two halves of their bits, and across
the halves, respects it altogether. -/
theorem xor_of_halves (f : ℕ → ℕ)
    (hc : ∀ a < 16, ∀ b < 16, f (16 * a ^^^ b) = f (16 * a) ^^^ f b)
    (hh : ∀ a < 16, ∀ b < 16, f (16 * (a ^^^ b)) = f (16 * a) ^^^ f (16 * b))
    (hl : ∀ a < 16, ∀ b < 16, f (a ^^^ b) = f a ^^^ f b) :
    ∀ i < 256, ∀ j < 256, f (i ^^^ j) = f i ^^^ f j := by
  have split : ∀ i < 256, 16 * (i / 16) ^^^ i % 16 = i := by decide +kernel
  have scale : ∀ a < 16, ∀ b < 16, 16 * a ^^^ 16 * b = 16 * (a ^^^ b) := by decide +kernel
  have closed : ∀ a < 16, ∀ b < 16, a ^^^ b < 16 := by decide +kernel
  intro i hi j hj
  have i1 : i / 16 < 16 := by omega
  have i2 : i % 16 < 16 := by omega
  have j1 : j / 16 < 16 := by omega
  have j2 : j % 16 < 16 := by omega
  have e : i ^^^ j = 16 * (i / 16 ^^^ j / 16) ^^^ (i % 16 ^^^ j % 16) := by
    conv_lhs => rw [← split i hi, ← split j hj]
    rw [← scale _ i1 _ j1, Nat.xor_assoc, Nat.xor_assoc, ← Nat.xor_assoc (i % 16),
      Nat.xor_comm (i % 16), Nat.xor_assoc]
  rw [e, hc _ (closed _ i1 _ j1) _ (closed _ i2 _ j2), hh _ i1 _ j1, hl _ i2 _ j2]
  conv_rhs => rw [← split i hi, ← split j hj, hc _ i1 _ i2, hc _ j1 _ j2]
  rw [Nat.xor_assoc, Nat.xor_assoc, ← Nat.xor_assoc (f (16 * (j / 16))),
    Nat.xor_comm (f (16 * (j / 16))), Nat.xor_assoc]

/-- The shift of a product is the xor of the shifts. -/
theorem shift_xor : ∀ i < 256, ∀ j < 256, shift (i ^^^ j) = shift i ^^^ shift j :=
  xor_of_halves shift (by decide +kernel) (by decide +kernel) (by decide +kernel)

/-- The unit of a product is the xor of the units. -/
theorem unit_xor : ∀ i < 256, ∀ j < 256, unit (i ^^^ j) = unit i ^^^ unit j :=
  xor_of_halves unit (by decide +kernel) (by decide +kernel) (by decide +kernel)

/-- The mask of a product is the xor of the masks. -/
theorem mask_xor : ∀ i < 256, ∀ j < 256, mask (i ^^^ j) = mask i ^^^ mask j :=
  xor_of_halves mask (by decide +kernel) (by decide +kernel) (by decide +kernel)

/-- There are eight shifts. -/
theorem shift_lt : ∀ i < 256, shift i < 8 := by decide +kernel

/-- There are four units. -/
theorem unit_lt : ∀ i < 256, unit i < 4 := by decide +kernel

/-- There are eight masks. -/
theorem mask_lt : ∀ i < 256, mask i < 8 := by decide +kernel

/-- Only the scalar blade has shift, unit and mask all zero. -/
theorem eq_zero_of_places : ∀ d < 256, shift d = 0 → unit d = 0 → mask d = 0 → d = 0 := by
  decide +kernel

/-- The xor of two numbers below 256 is below 256. -/
theorem xor_lt {i j : ℕ} (hi : i < 256) (hj : j < 256) : i ^^^ j < 256 :=
  Nat.xor_lt_two_pow (n := 8) hi hj

/-- The xor of two numbers below 8 is below 8. -/
theorem xor_lt_eight {i j : ℕ} (hi : i < 8) (hj : j < 8) : i ^^^ j < 8 :=
  Nat.xor_lt_two_pow (n := 3) hi hj

/-- In row 0 the blades multiply as their signed permutations do: the signs of the two entries met
and of the product of their units make the sign of the product blade's entry times the sign of the
product. -/
theorem flip0_mul : ∀ i < 256, ∀ j < 256,
    (flip0 i + flip0 j + parity3 (mask j &&& shift i) + unitFlip (unit i) (unit j)) % 2 =
      (flip0 (i ^^^ j) + negative i j) % 2 := by
  decide +kernel

/-- The rows' signs against a shift of the rows. -/
theorem parity3_rows : ∀ a < 8, ∀ b < 8, ∀ r < 8, ∀ s < 8,
    (parity3 (a &&& r) + parity3 (b &&& (r ^^^ s))) % 2 =
      (parity3 ((a ^^^ b) &&& r) + parity3 (b &&& s)) % 2 := by
  decide +kernel

/-- A number and the bit xored onto it have together the parity of the sum. -/
theorem flip_mod_two (i r : ℕ) : flip i r % 2 = (flip0 i + parity3 (mask i &&& r)) % 2 := by
  rw [flip, Nat.xor_mod_two_eq]

/-- The blades multiply as their signed permutations do: in every row the signs of the two entries
met and of the product of their units make the sign of the product blade's entry times the sign
of the product. -/
theorem flip_mul {i j r : ℕ} (hi : i < 256) (hj : j < 256) (hr : r < 8) :
    (flip i r + flip j (r ^^^ shift i) + unitFlip (unit i) (unit j)) % 2 =
      (flip (i ^^^ j) r + negative i j) % 2 := by
  have h0 := flip0_mul i hi j hj
  have hp := parity3_rows _ (mask_lt i hi) _ (mask_lt j hj) r hr _ (shift_lt i hi)
  have h1 := flip_mod_two i r
  have h2 := flip_mod_two j (r ^^^ shift i)
  have h3 := flip_mod_two (i ^^^ j) r
  rw [mask_xor i hi j hj] at h3
  omega

end Cert.Blades
-- ==== Proof.Algebra.lean ====
module

public import proofs.«01_k».proof.Proof.Blades
public import Mathlib.Data.Real.Basic
public import Mathlib.Data.EReal.Operations
public import Mathlib.Algebra.BigOperators.Fin
public import Mathlib.Algebra.BigOperators.Ring.Finset
public import Mathlib.Tactic.Ring
public import Mathlib.Tactic.NormNum

/-!
The geometric product computed through the matrices is the geometric product of the blades.

Over the real numbers: the matrices of two multivectors are multiplied as 8 by 8 matrices of
quaternions, and the product is read back by pairing it with each blade's matrix.  Since the
blades' matrices multiply as the blades do (`quat_entry`) and are orthogonal of square norm eight
(`entry_orthogonal`), coefficient `k` of the result is the sum of the signed products of the
coefficients `i` and `j` with `i xor j = k` (`product_eq`).
-/

@[expose] public section

set_option maxRecDepth 16384

noncomputable section

namespace Cert.Blades

/-- A finite sum of real numbers, taken in the extended reals. -/
theorem coe_sum {ι : Type} (s : Finset ι) (f : ι → ℝ) :
    ((∑ i ∈ s, f i : ℝ) : EReal) = ∑ i ∈ s, (f i : EReal) :=
  map_sum (⟨⟨Real.toEReal, EReal.coe_zero⟩, EReal.coe_add⟩ : ℝ →+ EReal) f s

/-- The matrix entry of blade `i` at quaternion unit `q`, row `r`, column `c`. -/
def entry (q r c i : ℕ) : ℝ :=
  if c = r ^^^ shift i then if q = unit i then (-1) ^ flip i r else 0 else 0

/-- The matrix of the multivector with coefficients `a`. -/
def rep (a : Fin 256 → ℝ) (q r c : ℕ) : ℝ := ∑ i : Fin 256, entry q r c i * a i

/-- The product of two 8 by 8 matrices of quaternions: unit `q` of its entry in row `r`,
column `s`. -/
def quat (A B : ℕ → ℕ → ℕ → ℝ) (q r s : ℕ) : ℝ :=
  ∑ c : Fin 8, ∑ u : Fin 4, (-1) ^ unitFlip u (u ^^^ q) * (A u r c * B (u ^^^ q) c s)

/-- A sum with one term that is not zero. -/
theorem sum_pick {n : ℕ} (f : ℕ → ℝ) {m : ℕ} (hm : m < n) :
    (∑ c : Fin n, if (c : ℕ) = m then f c else 0) = f m := by
  rw [Finset.sum_eq_single (⟨m, hm⟩ : Fin n)]
  · simp
  · intro b _ hb
    rw [if_neg]
    exact fun h => hb (Fin.ext h)
  · simp

/-- Xor with `a` moves a number to `b` exactly when it is `a xor b`. -/
theorem xor_eq_iff (a q b : ℕ) : a ^^^ q = b ↔ q = a ^^^ b := by
  constructor
  · rintro rfl; rw [← Nat.xor_assoc, Nat.xor_self, Nat.zero_xor]
  · rintro rfl; rw [← Nat.xor_assoc, Nat.xor_self, Nat.zero_xor]

/-- Minus one to a power depends on the power's parity. -/
theorem neg_one_pow_congr {m n : ℕ} (h : m % 2 = n % 2) : (-1 : ℝ) ^ m = (-1) ^ n := by
  rw [neg_one_pow_eq_pow_mod_two, h, ← neg_one_pow_eq_pow_mod_two]

/-- The matrices of two blades multiply to the product blade's matrix, times the sign. -/
theorem quat_entry {i j q r s : ℕ} (hi : i < 256) (hj : j < 256) (hr : r < 8) :
    quat (fun q r c => entry q r c i) (fun q r c => entry q r c j) q r s =
      (-1) ^ negative i j * entry q r s (i ^^^ j) := by
  have h1 : quat (fun q r c => entry q r c i) (fun q r c => entry q r c j) q r s =
      (-1) ^ unitFlip (unit i) (unit i ^^^ q) *
        ((-1) ^ flip i r * entry (unit i ^^^ q) (r ^^^ shift i) s j) := by
    unfold quat
    have hc : ∀ c : Fin 8, (∑ u : Fin 4, (-1 : ℝ) ^ unitFlip u (u ^^^ q) *
        (entry u r c i * entry (u ^^^ q) c s j)) =
        if (c : ℕ) = r ^^^ shift i then (-1 : ℝ) ^ unitFlip (unit i) (unit i ^^^ q) *
          ((-1) ^ flip i r * entry (unit i ^^^ q) c s j) else 0 := by
      intro c
      by_cases h : (c : ℕ) = r ^^^ shift i
      · rw [if_pos h, ← sum_pick (n := 4) (fun u => (-1 : ℝ) ^ unitFlip u (u ^^^ q) *
          ((-1) ^ flip i r * entry (u ^^^ q) c s j)) (unit_lt i hi)]
        refine Finset.sum_congr rfl fun u _ => ?_
        rw [entry, if_pos h]
        by_cases hu : (u : ℕ) = unit i
        · rw [if_pos hu, if_pos hu]
        · rw [if_neg hu, if_neg hu, zero_mul, mul_zero]
      · rw [if_neg h]
        refine Finset.sum_eq_zero fun u _ => ?_
        rw [entry, if_neg h, zero_mul, mul_zero]
    rw [Finset.sum_congr rfl fun c _ => hc c]
    exact sum_pick (n := 8) (fun c => (-1 : ℝ) ^ unitFlip (unit i) (unit i ^^^ q) *
      ((-1) ^ flip i r * entry (unit i ^^^ q) c s j)) (xor_lt_eight hr (shift_lt i hi))
  rw [h1]
  unfold entry
  rw [shift_xor i hi j hj, unit_xor i hi j hj, Nat.xor_assoc]
  by_cases hs : s = r ^^^ (shift i ^^^ shift j)
  · rw [if_pos hs, if_pos hs]
    by_cases hq : q = unit i ^^^ unit j
    · have hq' : unit i ^^^ q = unit j := (xor_eq_iff _ _ _).2 hq
      rw [if_pos hq, if_pos hq', hq', ← pow_add, ← pow_add, ← pow_add]
      apply neg_one_pow_congr
      have := flip_mul hi hj hr
      omega
    · have hq' : ¬ unit i ^^^ q = unit j := fun h => hq ((xor_eq_iff _ _ _).1 h)
      rw [if_neg hq, if_neg hq', mul_zero, mul_zero, mul_zero]
  · rw [if_neg hs, if_neg hs, mul_zero, mul_zero, mul_zero]

/-- The signs a mask gives the eight rows add up to zero unless the mask is empty. -/
theorem sum_sign_mask : ∀ m < 8, m ≠ 0 → (∑ r : Fin 8, (-1 : ℤ) ^ parity3 (m &&& r)) = 0 := by
  decide +kernel

/-- The parity of a masked row number is additive in the mask. -/
theorem parity3_mask : ∀ a < 8, ∀ b < 8, ∀ r < 8,
    (parity3 (a &&& r) + parity3 (b &&& r)) % 2 = parity3 ((a ^^^ b) &&& r) % 2 := by
  decide +kernel

/-- The matrices of the blades are orthogonal, each of square norm eight. -/
theorem entry_orthogonal {l k : ℕ} (hl : l < 256) (hk : k < 256) :
    (∑ q : Fin 4, ∑ r : Fin 8, ∑ s : Fin 8, entry q r s l * entry q r s k) =
      if l = k then 8 else 0 := by
  have h1 : (∑ q : Fin 4, ∑ r : Fin 8, ∑ s : Fin 8, entry q r s l * entry q r s k) =
      if shift l = shift k ∧ unit l = unit k then
        ∑ r : Fin 8, (-1 : ℝ) ^ (flip l r + flip k r) else 0 := by
    rw [Finset.sum_comm]
    have hr : ∀ r : Fin 8, (∑ q : Fin 4, ∑ s : Fin 8, entry q r s l * entry q r s k) =
        if shift l = shift k ∧ unit l = unit k then (-1 : ℝ) ^ (flip l r + flip k r) else 0 := by
      intro r
      have hq : ∀ q : Fin 4, (∑ s : Fin 8, entry q r s l * entry q r s k) =
          if (q : ℕ) = unit l then (-1 : ℝ) ^ flip l r * entry q r (r ^^^ shift l) k else 0 := by
        intro q
        rw [← sum_pick (n := 8) (fun s => if (q : ℕ) = unit l then
          (-1 : ℝ) ^ flip l r * entry q r s k else 0) (xor_lt_eight r.isLt (shift_lt l hl))]
        refine Finset.sum_congr rfl fun s _ => ?_
        rw [entry]
        by_cases hs : (s : ℕ) = r ^^^ shift l
        · rw [if_pos hs, if_pos hs]
          by_cases hq : (q : ℕ) = unit l
          · rw [if_pos hq, if_pos hq]
          · rw [if_neg hq, if_neg hq, zero_mul]
        · rw [if_neg hs, if_neg hs, zero_mul]
      rw [Finset.sum_congr rfl fun q _ => hq q]
      rw [sum_pick (n := 4) (fun q => (-1 : ℝ) ^ flip l r * entry q r (r ^^^ shift l) k)
        (unit_lt l hl), entry]
      have hx : ((r : ℕ) ^^^ shift l = r ^^^ shift k) ↔ shift l = shift k := by
        rw [xor_eq_iff, ← Nat.xor_assoc, Nat.xor_self, Nat.zero_xor]
      by_cases h : shift l = shift k
      · rw [if_pos (hx.2 h)]
        by_cases hu : unit l = unit k
        · rw [if_pos hu, if_pos ⟨h, hu⟩, pow_add]
        · rw [if_neg hu, if_neg fun h' => hu h'.2, mul_zero]
      · rw [if_neg fun h' => h (hx.1 h'), if_neg fun h' => h h'.1, mul_zero]
    rw [Finset.sum_congr rfl fun r _ => hr r]
    by_cases h : shift l = shift k ∧ unit l = unit k
    · simp only [if_pos h]
    · simp only [if_neg h, Finset.sum_const_zero]
  rw [h1]
  by_cases h : l = k
  · subst h
    rw [if_pos ⟨rfl, rfl⟩, if_pos rfl]
    have : ∀ r : Fin 8, (-1 : ℝ) ^ (flip l r + flip l r) = 1 := fun r =>
      Even.neg_one_pow ⟨_, rfl⟩
    rw [Finset.sum_congr rfl fun r _ => this r]
    simp
  · rw [if_neg h]
    by_cases hp : shift l = shift k ∧ unit l = unit k
    · rw [if_pos hp]
      have hm : mask l ^^^ mask k ≠ 0 := by
        intro hm
        apply h
        have h0 := eq_zero_of_places (l ^^^ k) (xor_lt hl hk)
          (by rw [shift_xor l hl k hk, hp.1, Nat.xor_self])
          (by rw [unit_xor l hl k hk, hp.2, Nat.xor_self])
          (by rw [mask_xor l hl k hk, hm])
        rw [xor_eq_iff, Nat.xor_zero] at h0
        exact h0.symm
      have hs := sum_sign_mask _ (xor_lt_eight (mask_lt l hl) (mask_lt k hk)) hm
      have hs' : (∑ r : Fin 8, (-1 : ℝ) ^ parity3 ((mask l ^^^ mask k) &&& r)) = 0 := by
        exact_mod_cast hs
      have : ∀ r : Fin 8, (-1 : ℝ) ^ (flip l r + flip k r) =
          (-1) ^ (flip0 l + flip0 k) * (-1) ^ parity3 ((mask l ^^^ mask k) &&& r) := by
        intro r
        rw [← pow_add]
        apply neg_one_pow_congr
        have h2 := flip_mod_two l r
        have h3 := flip_mod_two k r
        have h4 := parity3_mask _ (mask_lt l hl) _ (mask_lt k hk) r r.isLt
        omega
      rw [Finset.sum_congr rfl fun r _ => this r, ← Finset.mul_sum, hs', mul_zero]
    · rw [if_neg hp]

/-- The product of the matrices of two multivectors is bilinear in their coefficients. -/
theorem quat_rep (a b : Fin 256 → ℝ) (q r s : ℕ) :
    quat (rep a) (rep b) q r s = ∑ i : Fin 256, ∑ j : Fin 256,
      a i * b j * quat (fun q r c => entry q r c i) (fun q r c => entry q r c j) q r s := by
  have hterm : ∀ c : Fin 8, ∀ u : Fin 4,
      (-1 : ℝ) ^ unitFlip u (u ^^^ q) * (rep a u r c * rep b (u ^^^ q) c s) =
        ∑ i : Fin 256, ∑ j : Fin 256, a i * b j *
          ((-1 : ℝ) ^ unitFlip u (u ^^^ q) * (entry u r c i * entry (u ^^^ q) c s j)) := by
    intro c u
    rw [rep, rep, Finset.sum_mul_sum, Finset.mul_sum]
    refine Finset.sum_congr rfl fun i _ => ?_
    rw [Finset.mul_sum]
    refine Finset.sum_congr rfl fun j _ => ?_
    ring
  unfold quat
  rw [Finset.sum_congr rfl fun c _ => Finset.sum_congr rfl fun u _ => hterm c u]
  simp only [Finset.mul_sum]
  rw [Finset.sum_congr rfl fun c _ => Finset.sum_comm, Finset.sum_comm]
  refine Finset.sum_congr rfl fun i _ => ?_
  rw [Finset.sum_congr rfl fun c _ => Finset.sum_comm, Finset.sum_comm]

/-- Coefficient `k` of the geometric product: the sum over the pairs of blades whose product is,
up to sign, blade `k`. -/
def geometric (a b : Fin 256 → ℝ) (k : ℕ) : ℝ :=
  ∑ i : Fin 256, ∑ j : Fin 256, if (i : ℕ) ^^^ j = k then (-1) ^ negative i j * a i * b j else 0

/-- The product through the matrices, read back by pairing with blade `k`'s matrix and dividing by
eight, is coefficient `k` of the geometric product. -/
theorem product_eq (a b : Fin 256 → ℝ) {k : ℕ} (hk : k < 256) :
    (∑ q : Fin 4, ∑ r : Fin 8, ∑ s : Fin 8, quat (rep a) (rep b) q r s * entry q r s k) * (1 / 8) =
      geometric a b k := by
  have hterm : ∀ (q : Fin 4) (r s : Fin 8), quat (rep a) (rep b) q r s * entry q r s k =
      ∑ i : Fin 256, ∑ j : Fin 256, a i * b j * (-1) ^ negative i j *
        (entry q r s ((i : ℕ) ^^^ j) * entry q r s k) := by
    intro q r s
    rw [quat_rep, Finset.sum_mul]
    refine Finset.sum_congr rfl fun i _ => ?_
    rw [Finset.sum_mul]
    refine Finset.sum_congr rfl fun j _ => ?_
    rw [quat_entry i.isLt j.isLt r.isLt]
    ring
  have hsum : (∑ q : Fin 4, ∑ r : Fin 8, ∑ s : Fin 8,
      quat (rep a) (rep b) q r s * entry q r s k) =
      ∑ i : Fin 256, ∑ j : Fin 256, a i * b j * (-1) ^ negative i j *
        ∑ q : Fin 4, ∑ r : Fin 8, ∑ s : Fin 8, entry q r s ((i : ℕ) ^^^ j) * entry q r s k := by
    rw [Finset.sum_congr rfl fun q _ => Finset.sum_congr rfl fun r _ =>
      Finset.sum_congr rfl fun s _ => hterm q r s]
    simp only [Finset.mul_sum]
    have inner : ∀ f : Fin 8 → Fin 256 → Fin 256 → ℝ,
        (∑ s, ∑ i, ∑ j, f s i j) = ∑ i, ∑ j, ∑ s, f s i j := by
      intro f
      rw [Finset.sum_comm]
      exact Finset.sum_congr rfl fun i _ => Finset.sum_comm
    have outer : ∀ f : Fin 4 → Fin 256 → Fin 256 → ℝ,
        (∑ s, ∑ i, ∑ j, f s i j) = ∑ i, ∑ j, ∑ s, f s i j := by
      intro f
      rw [Finset.sum_comm]
      exact Finset.sum_congr rfl fun i _ => Finset.sum_comm
    rw [Finset.sum_congr rfl fun q _ => Finset.sum_congr rfl fun r _ => inner _,
      Finset.sum_congr rfl fun q _ => inner _, outer]
  rw [hsum, Finset.sum_mul, geometric]
  refine Finset.sum_congr rfl fun i _ => ?_
  rw [Finset.sum_mul]
  refine Finset.sum_congr rfl fun j _ => ?_
  rw [entry_orthogonal (xor_lt i.isLt j.isLt) hk]
  split <;> ring

end Cert.Blades

end
-- ==== Proof.BodyReal.lean ====
module

public import proofs.«01_k».proof.Proof.BodyIdeal
public import proofs.«01_k».proof.Proof.Algebra

/-!
What one block of the kernel computes when the coefficients are real numbers and the table holds
the matrices of the blades: the geometric product of the block's rows.
-/

@[expose] public section

set_option maxRecDepth 16384

noncomputable section

namespace Cert.KernelIdeal.Body

open Idealize.ShloMosaic Cert.KernelIdeal Cert.KernelIdeal.Gen Cert.Blades

/-- The table's rows, sorted by unit, matrix row and matrix column. -/
def placeEquiv : Fin 4 × Fin 8 × Fin 8 ≃ Fin 256 where
  toFun x := place x.1 x.2.1 x.2.2
  invFun p := (⟨p.val / 64, by omega⟩, ⟨p.val / 8 % 8, by omega⟩, ⟨p.val % 8, by omega⟩)
  left_inv := by
    rintro ⟨q, r, c⟩
    simp only [place, Prod.mk.injEq, Fin.mk.injEq, Fin.ext_iff]
    omega
  right_inv := by
    intro p
    simp only [place, Fin.ext_iff]
    omega

/-- A sum over the table's rows, sorted by unit, matrix row and matrix column. -/
theorem sum_place {M : Type} [AddCommMonoid M] (f : Fin 256 → M) :
    ∑ p : Fin 256, f p = ∑ q : Fin 4, ∑ r : Fin 8, ∑ c : Fin 8, f (place q r c) := by
  rw [← placeEquiv.sum_comp f, Fintype.sum_prod_type]
  refine Finset.sum_congr rfl fun q _ => ?_
  rw [Fintype.sum_prod_type]
  rfl

/-- The table holds the matrices of the blades. -/
def Represents (e : Vec Ideal S256x256 .f32) : Prop :=
  ∀ (u : Fin 4) (r c : Fin 8) (i : Fin 256), e (ix2 (place u r c) i) = ((entry u r c i : ℝ) : EReal)

/-- The stack of a block of real coefficients holds the matrices of its rows. -/
theorem stack_real {x e : Vec Ideal S256x256 .f32} (he : Represents e) {n : Fin 256}
    {a : Fin 256 → ℝ} (hx : ∀ i, x (ix2 n i) = ((a i : ℝ) : EReal)) (u : Fin 4) (r c : Fin 8) :
    stack x e (ix4 u r c n) = ((rep a u r c : ℝ) : EReal) := by
  rw [stack_apply, rep, coe_sum]
  refine Finset.sum_congr rfl fun i _ => ?_
  rw [he, hx, EReal.coe_mul]

/-- The four products of quaternion units that make unit `q`, in the kernel's order. -/
theorem quat_units (A B : ℕ → ℕ → ℕ → ℝ) (q : Fin 4) (r s : ℕ) :
    quat A B q r s = ∑ c : Fin 8, match q with
      | 0 => A 0 r c * B 0 c s - A 1 r c * B 1 c s - A 2 r c * B 2 c s - A 3 r c * B 3 c s
      | 1 => A 0 r c * B 1 c s + A 1 r c * B 0 c s + A 2 r c * B 3 c s - A 3 r c * B 2 c s
      | 2 => A 0 r c * B 2 c s - A 1 r c * B 3 c s + A 2 r c * B 0 c s + A 3 r c * B 1 c s
      | 3 => A 0 r c * B 3 c s + A 1 r c * B 2 c s - A 2 r c * B 1 c s + A 3 r c * B 0 c s := by
  unfold quat
  refine Finset.sum_congr rfl fun c _ => ?_
  fin_cases q <;> simp [Fin.sum_univ_four, unitFlip] <;> ring

/-- An entry of the product of two stacks of real matrices. -/
theorem product_real {s t : FVec Ideal S4x8x8x256 .f32} {n : Fin 256} {A B : ℕ → ℕ → ℕ → ℝ}
    (hs : ∀ (u : Fin 4) (r c : Fin 8), s (ix4 u r c n) = ((A u r c : ℝ) : EReal))
    (ht : ∀ (u : Fin 4) (r c : Fin 8), t (ix4 u r c n) = ((B u r c : ℝ) : EReal))
    (q : Fin 4) (r c : Fin 8) :
    product s t (ix2 (place q r c) n) = ((quat A B q r c : ℝ) : EReal) := by
  rw [product_apply, piece_apply, quat_units, coe_sum]
  refine Finset.sum_congr rfl fun d _ => ?_
  fin_cases q <;>
    simp only [terms, ValueIdx.mulf_apply, ValueIdx.addf_apply, ValueIdx.subf_apply, row_apply,
      plane_apply, hs, ht, ← EReal.coe_mul, ← EReal.coe_sub, ← EReal.coe_add] <;> rfl

/-- The kernel's scale is one eighth. -/
theorem scale_eq : Ideal.ofBits .f32 0x3E000000#32 = ((1 / 8 : ℝ) : EReal) := by
  simp [Ideal.ofBits, Ideal.ieee, -EReal.coe_mul]; norm_num

/-- A row of the output block is the geometric product of the rows of the input blocks. -/
theorem out_real {x y e : Vec Ideal S256x256 .f32} (he : Represents e) {n : Fin 256}
    {a b : Fin 256 → ℝ} (hx : ∀ i, x (ix2 n i) = ((a i : ℝ) : EReal))
    (hy : ∀ i, y (ix2 n i) = ((b i : ℝ) : EReal)) (k : Fin 256) :
    out x y e (ix2 n k) = ((geometric a b k : ℝ) : EReal) := by
  rw [out_apply, scale_eq, ← product_eq a b k.isLt, EReal.coe_mul, sum_place]
  congr 1
  simp only [coe_sum]
  refine Finset.sum_congr rfl fun q _ => Finset.sum_congr rfl fun r _ =>
    Finset.sum_congr rfl fun c _ => ?_
  rw [product_real (stack_real he hx) (stack_real he hy), he, EReal.coe_mul]

end Cert.KernelIdeal.Body

end
-- ==== Proof.Table.lean ====
module

public import proofs.«01_k».proof.KernelIdeal
public import proofs.«01_k».proof.Proof.Blades

/-!
The kernel's constant table is the matrix representation of the blades.

Row `64 q + 8 r + c` of the table belongs to quaternion unit `q`, matrix row `r` and matrix
column `c`; its column `i` holds that entry of blade `i`.
-/

@[expose] public section

set_option maxRecDepth 16384
set_option maxHeartbeats 0

namespace Cert.Blades

/-- The word the constant table holds for unit `q`, row `r`, column `c` and blade `i`: zero, one or
minus one. -/
def word (q r c i : ℕ) : BitVec 32 :=
  bif q.beq (unit i) && c.beq (r ^^^ shift i) then
    bif (flip i r).beq 0 then 0x3F800000#32 else 0xBF800000#32
  else 0#32

/-- The printed table's rows of quaternion unit 0 are the words the bit formulas give. -/
theorem table_unit0 : ∀ r < 8, ∀ c < 8, ∀ i < 256,
    Cert.KernelIdeal.lit0t (0 + 2048 * r + 256 * c + i) = word 0 r c i := by
  decide +kernel

/-- The printed table's rows of quaternion unit 1 are the words the bit formulas give. -/
theorem table_unit1 : ∀ r < 8, ∀ c < 8, ∀ i < 256,
    Cert.KernelIdeal.lit0t (16384 + 2048 * r + 256 * c + i) = word 1 r c i := by
  decide +kernel

/-- The printed table's rows of quaternion unit 2 are the words the bit formulas give. -/
theorem table_unit2 : ∀ r < 8, ∀ c < 8, ∀ i < 256,
    Cert.KernelIdeal.lit0t (32768 + 2048 * r + 256 * c + i) = word 2 r c i := by
  decide +kernel

/-- The printed table's rows of quaternion unit 3 are the words the bit formulas give. -/
theorem table_unit3 : ∀ r < 8, ∀ c < 8, ∀ i < 256,
    Cert.KernelIdeal.lit0t (49152 + 2048 * r + 256 * c + i) = word 3 r c i := by
  decide +kernel

/-- Every entry of the printed table is the word the bit formulas give. -/
theorem table_word {q r c i : ℕ} (hq : q < 4) (hr : r < 8) (hc : c < 8) (hi : i < 256) :
    Cert.KernelIdeal.lit0t (16384 * q + 2048 * r + 256 * c + i) = word q r c i := by
  match q, hq with
  | 0, _ => exact table_unit0 r hr c hc i hi
  | 1, _ => exact table_unit1 r hr c hc i hi
  | 2, _ => exact table_unit2 r hr c hc i hi
  | 3, _ => exact table_unit3 r hr c hc i hi

end Cert.Blades
-- ==== Proof.Signs.lean ====
module

public import Idealize.ShloMosaic.Lib.IdealHost
public import Mathlib.Data.EReal.Operations
public import Mathlib.Tactic.NormNum

/-!
The float words of one and minus one as real numbers.
-/

@[expose] public section

noncomputable section

namespace Cert.Blades

open Idealize.ShloMosaic

/-- The word of minus one. -/
theorem minus_one_word : Ideal.ofBits .f32 0xBF800000#32 = ((-1 : ℝ) : EReal) := by
  simp [Ideal.ofBits, Ideal.ieee, -EReal.coe_mul, -EReal.coe_neg]
  norm_num

/-- The words of one and minus one, chosen by a number that is zero or one, as a power of minus
one. -/
theorem sign_word {p : ℕ} (hp : p < 2) :
    (bif p.beq 0 then Ideal.ofBits .f32 0x3F800000#32 else Ideal.ofBits .f32 0xBF800000#32) =
      (((-1) ^ p : ℝ) : EReal) := by
  match p, hp with
  | 0, _ => exact Ideal.ofBits_one_f32.trans (by rw [pow_zero, EReal.coe_one])
  | 1, _ => exact minus_one_word.trans (by rw [pow_one])

end Cert.Blades

end
-- ==== Proof.KernelValue.lean ====
module

public import proofs.«01_k».proof.Proof.BodyReal
public import proofs.«01_k».proof.Proof.Table
public import proofs.«01_k».proof.Proof.Signs
public import proofs.«01_k».proof.Proof.Gen.KernelIdeal.Value
public import Idealize.ShloMosaic.Lib.Pipeline.ValueKit
public import Idealize.ShloMosaic.Lib.Tactic

/-!
What the kernel's result array holds when the coefficients are real numbers: row by row the
geometric product of the rows of the two arguments.
-/

@[expose] public section

set_option maxRecDepth 16384

noncomputable section

namespace Cert.KernelIdeal.Result

open Idealize.ShloMosaic Idealize.ShloMosaic.TcCoe Idealize.SL.Sem Cert.KernelIdeal
  Cert.KernelIdeal.Gen Cert.KernelIdeal.Body Cert.Blades

variable (m : (ℓ : Loc nD τ sig) → Buf (Elt Ideal) ℓ)

/-- The table as the kernel's launch finds it. -/
theorem table_eq (c : Dev nD) :
    V m c main_cst = fun i => FloatOps.ofBits (F := Ideal) .f32 (lit0 (S256x256.rowMajor i)) := by
  unfold V
  after_results
  rfl

/-- A table word as a real number. -/
theorem word_real (q r c i : ℕ) :
    Ideal.ofBits .f32 (word q r c i) = ((entry q r c i : ℝ) : EReal) := by
  have hf : Blades.flip i r < 2 := by
    have h0 : flip0 i < 2 ^ 1 := lt_of_le_of_lt Nat.and_le_right (by decide)
    have h1 : parity3 (mask i &&& r) < 2 ^ 1 := lt_of_le_of_lt Nat.and_le_right (by decide)
    exact Nat.xor_lt_two_pow h0 h1
  unfold word entry
  by_cases hq : q = unit i
  · by_cases hc : c = r ^^^ shift i
    · have e1 : Nat.beq q (unit i) = true := Nat.beq_eq ▸ hq
      have e2 : Nat.beq c (r ^^^ shift i) = true := Nat.beq_eq ▸ hc
      rw [if_pos hc, if_pos hq, ← sign_word hf, e1, e2]
      cases (Blades.flip i r).beq 0 <;> rfl
    · have hb : Nat.beq c (r ^^^ shift i) = false := Bool.eq_false_iff.2 fun h => hc (Nat.eq_of_beq_eq_true h)
      rw [if_neg hc, hb, Bool.and_false]
      exact Ideal.ofBits_zero_f32
  · have hb : Nat.beq q (unit i) = false := Bool.eq_false_iff.2 fun h => hq (Nat.eq_of_beq_eq_true h)
    rw [if_neg hq, hb, Bool.false_and, ite_self]
    exact Ideal.ofBits_zero_f32

/-- The table is the matrices of the blades. -/
theorem table_represents (c : Dev nD) : Represents (V m c main_cst) := by
  intro u r d i
  rw [table_eq]
  show Ideal.ofBits .f32 (lit0t (S256x256.rowMajor (ix2 (place u r d) i)).val) = _
  rw [← word_real, ← table_word u.isLt r.isLt d.isLt i.isLt]
  refine congrArg (fun n => Ideal.ofBits .f32 (lit0t n)) ?_
  refine (rowMajor_val2 _ 256 rfl).trans ?_
  show (u.val * 64 + r.val * 8 + d.val) * 256 + i.val = _
  omega

/-- The rows a grid point reads of the first argument. -/
theorem idx0 : ∀ t : Fin cfg0.N, win0_0.index t = ![t.val, 0] := by decide +kernel

/-- The rows a grid point reads of the second argument. -/
theorem idx1 : ∀ t : Fin cfg0.N, win0_1.index t = ![t.val, 0] := by decide +kernel

/-- Every grid point reads the whole table. -/
theorem idx2 : ∀ t : Fin cfg0.N, win0_2.index t = ![0, 0] := by decide +kernel

/-- The rows a grid point writes. -/
theorem idx3 : ∀ t : Fin cfg0.N, win0_3.index t = ![t.val, 0] := by decide +kernel

/-- One entry of the block a grid point computes: `n` is the row in the block, `w` in the array. -/
theorem point (c : Dev nD) {a b : Fin 512 → Fin 256 → ℝ}
    (ha : ∀ i j, m ((c : Thread nD τ).loc main_arg0) (ix2 i j) = ((a i j : ℝ) : EReal))
    (hb : ∀ i j, m ((c : Thread nD τ).loc main_arg1) (ix2 i j) = ((b i j : ℝ) : EReal))
    (t : Fin cfg0.N) (n k : Fin 256) (w : Fin 512) (hw : w.val = t.val * 256 + n.val) :
    out (iblk m c 0 t) (iblk m c 1 t) (iblk m c 2 t) (ix2 n k) =
      ((geometric (a w) (b w) k : ℝ) : EReal) := by
  have he : Represents (iblk m c 2 t) := by
    have h : iblk m c 2 t = V m c main_cst := by
      funext x
      blk_ext [iblk, idx2]
    rw [h]
    exact table_represents m c
  refine out_real he (fun i => ?_) (fun i => ?_) k
  · refine Eq.trans ?_ (ha w i)
    blk_ext [iblk, V_main_arg0, idx0]
  · refine Eq.trans ?_ (hb w i)
    blk_ext [iblk, V_main_arg1, idx1]

/-- The result array. -/
theorem final (c : Dev nD) (a b : Fin 512 → Fin 256 → ℝ)
    (ha : ∀ i j, m ((c : Thread nD τ).loc main_arg0) (ix2 i j) = ((a i j : ℝ) : EReal))
    (hb : ∀ i j, m ((c : Thread nD τ).loc main_arg1) (ix2 i j) = ((b i j : ℝ) : EReal)) :
    (dats m 0 c).arrAt 3 cfg0.N = fun i : S512x256.Idx =>
      ((geometric (a (i 0)) (b (i 0)) (i 1).val : ℝ) : EReal) := by
  refine (dats m 0 c).arrAt_eq_of_covers 3 _ (by decide +kernel) fun t hf y => ?_
  obtain ⟨n, k, rfl⟩ : ∃ n k : Fin 256, y = ix2 n k := ⟨y 0, y 1, (ix2_eta _).symm⟩
  blk_simp
  rw [after0_3, out_eq]
  have hw : ((win0_3.blk t).view.emb (ix2 n k) 0 : ℕ) = t.val * 256 + n.val := by
    blk_simp [idx3]
  refine (point m c ha hb t n k ((win0_3.blk t).view.emb (ix2 n k) 0) hw).trans ?_
  have hk : win0_3.index t 1 * 256 + k.val = k.val := by
    rw [idx3]
    exact Nat.zero_add _
  rw [hk]

end Cert.KernelIdeal.Result

end
-- ==== Proof.RefValue.lean ====
module

public import proofs.«01_k».proof.Proof.Algebra
public import proofs.«01_k».proof.Proof.Gen.ReferenceIdeal.Run
public import Idealize.ShloMosaic.Lib.Pointwise
public import Idealize.ShloMosaic.Lib.IdealHost
public import Idealize.ShloMosaic.Lib.Routing.OpsPair

/-!
What the reference computes when the coefficients are real numbers and the index and sign arrays
are the ones of the algebra: row by row the geometric product of its two arguments.
-/

@[expose] public section

set_option maxRecDepth 16384

noncomputable section

namespace Cert.ReferenceIdeal.Result

open Idealize.ShloMosaic Cert.ReferenceIdeal Cert.ReferenceIdeal.Gen Cert.Blades

/-- An index array as the column of words the reference looks up with, negative words moved up by
256. -/
def column (x : IVec S65536 32) : IVec S65536x1 32 :=
  broadcastInDim S65536x1 ![0] bcast_S65536_S65536x1_0
    (select (cmpi .slt x (broadcastInDim S65536 ![] bcast_S_S65536 (constantI S_ 32 0#32)))
      (addi x (broadcastInDim S65536 ![] bcast_S_S65536 (constantI S_ 32 256#32))) x)

/-- Whether an index array's words name columns of the table, repeated for every row. -/
def inside (x : IVec S65536 32) : IVec S512x65536 1 :=
  broadcastInDim S512x65536 ![1] bcast_S65536_S512x65536_1
    (Host.reduce IntOp.andi
      (andi (cmpi .sge (column x) (broadcastInDim S65536x1 ![] bcast_S_S65536x1 (constantI S_ 32 0#32)))
        (cmpi .sle (column x) (broadcastInDim S65536x1 ![0, 1] bcast_S1x1_S65536x1_0_1
          (broadcastInDim S1x1 ![1] bcast_S1_S1x1_1 (constantI S1 32 255#32)))))
      (constantI S_ 1 1#1) reducesTo_S65536x1_S65536_d1 h_S_)

/-- The columns of `a` that an index array names. -/
def taken (a : FVec Ideal S512x256 .f32) (x : IVec S65536 32) : FVec Ideal S512x65536 .f32 :=
  select (inside x) (Host.gather gather_S512x256_S65536x1_S512x65536_0_1_n_n_1_1_5121 a (column x))
    (broadcastInDim S512x65536 ![] bcast_S_S512x65536 (constant S_ .f32 0x7FC00000#32))

/-- The signed products of the pairs of coefficients. -/
def updates (a b : FVec Ideal S512x256 .f32) (l r : IVec S65536 32) (s : FVec Ideal S65536 .f32) :
    FVec Ideal S512x65536 .f32 :=
  mulf (mulf (broadcastInDim S512x65536 ![0, 1] bcast_S1x65536_S512x65536_0_1
    (broadcastInDim S1x65536 ![1] bcast_S65536_S1x65536_1 s)) (taken a l)) (taken b r)

/-- The reference's result. -/
def result (a b : FVec Ideal S512x256 .f32) (l r k : IVec S65536 32) (s : FVec Ideal S65536 .f32) :
    FVec Ideal S512x256 .f32 :=
  Host.scatterAdd scatter_S512x256_S65536x1_S512x65536_0_1_1_1
    (broadcastInDim S512x256 ![] bcast_S_S512x256 (constant S_ .f32 0x00000000#32))
    (column k) (updates a b l r s)

/-- A word below 256 is not negative, and names a column. -/
theorem word_in_range : ∀ v : Fin 256,
    Scalar.select (IntOp.cmpi .slt (BitVec.ofNat 32 v.val) 0#32) (IntOp.addi (BitVec.ofNat 32 v.val) 256#32)
      (BitVec.ofNat 32 v.val) = BitVec.ofNat 32 v.val ∧
    IntOp.andi (IntOp.cmpi .sge (BitVec.ofNat 32 v.val) 0#32)
      (IntOp.cmpi .sle (BitVec.ofNat 32 v.val) 255#32) = 1#1 ∧
    (BitVec.ofNat 32 v.val).toInt = v.val := by
  decide +kernel

variable {x : IVec S65536 32} {n : Fin 65536} {v : Fin 256}

/-- The column of words holds the index array's word. -/
theorem column_apply (h : x (ix1 n) = BitVec.ofNat 32 v.val) :
    column x (ix2 n 0) = BitVec.ofNat 32 v.val := by
  have e : column x (ix2 n 0) = Scalar.select (IntOp.cmpi .slt (x (ix1 n)) 0#32)
      (IntOp.addi (x (ix1 n)) 256#32) (x (ix1 n)) := by
    pointwise [column]
  rw [e, h]
  exact (word_in_range v).1

/-- A word below 256 is found inside the table. -/
theorem inside_apply (h : x (ix1 n) = BitVec.ofNat 32 v.val) (b : Fin 512) :
    inside x (ix2 b n) = 1#1 := by
  have hc := column_apply h
  have e : inside x (ix2 b n) =
      IntOp.andi (IntOp.andi (IntOp.cmpi .sge (column x (ix2 n 0)) 0#32)
        (IntOp.cmpi .sle (column x (ix2 n 0)) 255#32)) 1#1 := by
    pointwise [inside]
    rw [Finset.univ_unique, Finset.fold_singleton]
    rfl
  rw [e, hc, (word_in_range v).2.1]
  rfl

/-- The column looked up is the one the index array names. -/
theorem gather_apply (a : FVec Ideal S512x256 .f32) (h : x (ix1 n) = BitVec.ofNat 32 v.val)
    (b : Fin 512) :
    Host.gather gather_S512x256_S65536x1_S512x65536_0_1_n_n_1_1_5121 a (column x) (ix2 b n) =
      a (ix2 b v) := by
  unfold Host.gather
  refine congrArg a (funext fun d => Fin.ext ?_)
  match d with
  | ⟨0, _⟩ =>
    show GatherDims.start _ _ _ 0 + GatherDims.batchCoord _ _ 0 + GatherDims.offCoord _ _ 0 = b.val
    have h1 : GatherDims.start gather_S512x256_S65536x1_S512x65536_0_1_n_n_1_1_5121 (ix2 b n)
        (column x) 0 = 0 := by
      unfold GatherDims.start
      exact dif_neg (by decide)
    have h2 : GatherDims.batchCoord gather_S512x256_S65536x1_S512x65536_0_1_n_n_1_1_5121 (ix2 b n)
        0 = 0 := GatherDims.batchCoord_eq_zero _ _ _ List.not_mem_nil
    rw [h1, h2]
    unfold GatherDims.offCoord
    rw [dif_pos (by decide)]
    exact Nat.zero_add _
  | ⟨1, _⟩ =>
    show GatherDims.start _ _ _ 1 + GatherDims.batchCoord _ _ 1 + GatherDims.offCoord _ _ 1 = v.val
    have h2 : GatherDims.batchCoord gather_S512x256_S65536x1_S512x65536_0_1_n_n_1_1_5121 (ix2 b n)
        1 = 0 := GatherDims.batchCoord_eq_zero _ _ _ List.not_mem_nil
    have h3 : GatherDims.offCoord gather_S512x256_S65536x1_S512x65536_0_1_n_n_1_1_5121 (ix2 b n)
        1 = 0 := GatherDims.offCoord_eq_zero _ _ _ (by decide)
    rw [h2, h3]
    unfold GatherDims.start
    rw [dif_pos (by decide)]
    have hs : ∀ c, GatherDims.siIdx gather_S512x256_S65536x1_S512x65536_0_1_n_n_1_1_5121 (ix2 b n) c =
        ix2 n 0 := by
      intro c
      funext y
      match y with
      | ⟨0, _⟩ => rfl
      | ⟨1, _⟩ => exact Subsingleton.elim (α := Fin 1) _ _
    rw [hs, column_apply h, (word_in_range v).2.2]
    have := v.isLt
    show min v.val 255 + 0 + 0 = v.val
    omega

/-- One signed product. -/
theorem updates_apply {a b : FVec Ideal S512x256 .f32} {l r : IVec S65536 32}
    {s : FVec Ideal S65536 .f32} {i j : Fin 256} (hl : l (ix1 n) = BitVec.ofNat 32 i.val)
    (hr : r (ix1 n) = BitVec.ofNat 32 j.val) (w : Fin 512) :
    updates a b l r s (ix2 w n) = s (ix1 n) * a (ix2 w i) * b (ix2 w j) := by
  have ha : taken a l (ix2 w n) = a (ix2 w i) := by
    unfold taken
    rw [ValueIdx.select_apply, inside_apply hl, ValueIdx.select_one, gather_apply a hl]
  have hb : taken b r (ix2 w n) = b (ix2 w j) := by
    unfold taken
    rw [ValueIdx.select_apply, inside_apply hr, ValueIdx.select_one, gather_apply b hr]
  have e : updates a b l r s (ix2 w n) =
      s (ix1 n) * taken a l (ix2 w n) * taken b r (ix2 w n) := by
    pointwise [updates]
  rw [e, ha, hb]

/-- Where a signed product is added. -/
theorem lands_apply (h : x (ix1 n) = BitVec.ofNat 32 v.val) (w w' : Fin 512) (k : Fin 256) :
    ScatterDims.resultIdx? scatter_S512x256_S65536x1_S512x65536_0_1_1_1 (ix2 w n) (column x) =
      some (ix2 w' k) ↔ w = w' ∧ v = k := by
  have hs0 : ScatterDims.start scatter_S512x256_S65536x1_S512x65536_0_1_1_1 (ix2 w n) (column x)
      0 = 0 := by
    unfold ScatterDims.start
    exact dif_neg (by decide)
  have hw1 : ScatterDims.window scatter_S512x256_S65536x1_S512x65536_0_1_1_1 (ix2 w n) 1 = 0 := by
    unfold ScatterDims.window
    exact dif_neg (by decide)
  have hw0 : ScatterDims.window scatter_S512x256_S65536x1_S512x65536_0_1_1_1 (ix2 w n) 0 =
      w.val := by
    unfold ScatterDims.window
    rw [dif_pos (by decide)]
    rfl
  have hs1 : ScatterDims.start scatter_S512x256_S65536x1_S512x65536_0_1_1_1 (ix2 w n) (column x)
      1 = v.val := by
    unfold ScatterDims.start
    rw [dif_pos (by decide)]
    have hs : ∀ c, ScatterDims.siIdx scatter_S512x256_S65536x1_S512x65536_0_1_1_1 (ix2 w n) c =
        ix2 n 0 := by
      intro c
      funext y
      match y with
      | ⟨0, _⟩ => rfl
      | ⟨1, _⟩ => exact Subsingleton.elim (α := Fin 1) _ _
    rw [hs, column_apply h, (word_in_range v).2.2]
  rw [Routing.resultIdx?_eq_some]
  constructor
  · intro q
    have q0 := q 0
    have q1 := q 1
    rw [hs0, hw0] at q0
    rw [hs1, hw1] at q1
    change (0 : ℤ) + (w.val : ℤ) = (w'.val : ℤ) at q0
    change (v.val : ℤ) + ((0 : ℕ) : ℤ) = (k.val : ℤ) at q1
    exact ⟨Fin.ext (by omega), Fin.ext (by omega)⟩
  · rintro ⟨rfl, rfl⟩ d
    match d with
    | ⟨0, _⟩ =>
      refine (congrArg₂ (fun (p : ℤ) (q : ℕ) => p + (q : ℤ)) hs0 hw0).trans ?_
      exact zero_add _
    | ⟨1, _⟩ =>
      refine (congrArg₂ (fun (p : ℤ) (q : ℕ) => p + (q : ℤ)) hs1 hw1).trans ?_
      exact add_zero _

/-- A sum over the pairs of blades, the pairs numbered row by row. -/
theorem sum_pairs {M : Type} [AddCommMonoid M] (f : Fin 65536 → M) :
    ∑ n, f n = ∑ i : Fin 256, ∑ j : Fin 256, f ⟨256 * i.val + j.val, by omega⟩ := by
  have e := (finProdFinEquiv (m := 256) (n := 256)).sum_comp fun n => f ⟨n.val, n.isLt⟩
  rw [Fintype.sum_prod_type] at e
  refine e.symm.trans ?_
  refine Finset.sum_congr rfl fun i _ => Finset.sum_congr rfl fun j _ => congrArg f (Fin.ext ?_)
  exact Nat.add_comm _ _

/-- The reference's result is the geometric product of the rows. -/
theorem result_eq {a b : FVec Ideal S512x256 .f32} {l r k : IVec S65536 32}
    {s : FVec Ideal S65536 .f32} {a' b' : Fin 512 → Fin 256 → ℝ}
    (ha : ∀ w i, a (ix2 w i) = ((a' w i : ℝ) : EReal))
    (hb : ∀ w i, b (ix2 w i) = ((b' w i : ℝ) : EReal))
    (hl : ∀ i j : Fin 256, l (ix1 ⟨256 * i.val + j.val, by omega⟩) = BitVec.ofNat 32 i.val)
    (hr : ∀ i j : Fin 256, r (ix1 ⟨256 * i.val + j.val, by omega⟩) = BitVec.ofNat 32 j.val)
    (hk : ∀ i j : Fin 256, k (ix1 ⟨256 * i.val + j.val, by omega⟩) =
      BitVec.ofNat 32 (i.val ^^^ j.val))
    (hs : ∀ i j : Fin 256, s (ix1 ⟨256 * i.val + j.val, by omega⟩) =
      (((-1) ^ negative i j : ℝ) : EReal)) (w : Fin 512) (c : Fin 256) :
    result a b l r k s (ix2 w c) = ((geometric (a' w) (b' w) c : ℝ) : EReal) := by
  have e : result a b l r k s (ix2 w c) =
      ∑ u : S512x65536.Idx,
        if ScatterDims.resultIdx? scatter_S512x256_S65536x1_S512x65536_0_1_1_1 u (column k) =
          some (ix2 w c) then updates a b l r s u else 0 := by
    rw [← Finset.sum_filter]
    show Ideal.ofBits .f32 0x00000000#32 + _ = _
    rw [Ideal.ofBits_zero_f32, zero_add]
  rw [e, sum_idx2, Finset.sum_comm, sum_pairs, geometric, coe_sum]
  refine Finset.sum_congr rfl fun i _ => ?_
  rw [coe_sum]
  refine Finset.sum_congr rfl fun j _ => ?_
  have hx := xor_lt i.isLt j.isLt
  have hterm : ∀ w' : Fin 512,
      (if ScatterDims.resultIdx? scatter_S512x256_S65536x1_S512x65536_0_1_1_1
          (ix2 w' ⟨256 * i.val + j.val, by omega⟩) (column k) = some (ix2 w c)
        then updates a b l r s (ix2 w' ⟨256 * i.val + j.val, by omega⟩) else 0) =
      if w' = w then if i.val ^^^ j.val = c.val then
        (((-1) ^ negative i j * a' w i * b' w j : ℝ) : EReal) else 0 else 0 := by
    intro w'
    have hland := lands_apply (v := ⟨i.val ^^^ j.val, hx⟩) (hk i j) w' w c
    by_cases hw : w' = w
    · subst hw
      by_cases hc : i.val ^^^ j.val = c.val
      · rw [if_pos (hland.2 ⟨rfl, Fin.ext hc⟩), if_pos rfl, if_pos hc,
          updates_apply (hl i j) (hr i j), hs, ha, hb, EReal.coe_mul, EReal.coe_mul]
      · rw [if_neg fun q => hc (congrArg Fin.val (hland.1 q).2), if_pos rfl, if_neg hc]
    · rw [if_neg fun q => hw (hland.1 q).1, if_neg hw]
  rw [Finset.sum_congr rfl fun w' _ => hterm w', Finset.sum_ite_eq' Finset.univ w,
    if_pos (Finset.mem_univ _)]
  split <;> simp

end Cert.ReferenceIdeal.Result

end
-- ==== Proof.Pre.lean ====
module

public import proofs.«01_k».proof.Pre_cayley_arguments
public import proofs.«01_k».proof.Proof.Blades
public import Idealize.ShloMosaic.Lib.Pointwise
public import Idealize.ShloMosaic.Lib.IdealHost
public import Idealize.ShloMosaic.Lib.Affine
public import proofs.«01_k».proof.Proof.Signs

/-!
What the precondition says of the arguments: every coefficient is a real number, and the index and
sign arrays are the ones of the algebra, pair by pair.
-/

@[expose] public section

set_option maxRecDepth 16384

noncomputable section

namespace Cert.Pre_cayley_arguments

open Idealize.ShloMosaic Cert.Blades

/-- The shape relations the precondition states. -/
theorem facts : Facts := by
  constructor <;> decide

attribute [local instance] facts

/-- The pair `n`'s first blade, as a word. -/
def left (n : BitVec 32) : BitVec 32 := IntOp.shrsi .host n 8#32

/-- The pair `n`'s second blade, as a word. -/
def right (n : BitVec 32) : BitVec 32 := IntOp.andi n 255#32

/-- The number of set bits of the first blade, moved down by `s`, that the second has too. -/
def common (x y : BitVec 32) (s : BitVec 32) : BitVec 32 :=
  IntOp.ctpop (IntOp.andi (IntOp.shrsi .host x s) y)

/-- The number of sign changes the precondition counts for two blades. -/
def changes (x y : BitVec 32) : BitVec 32 :=
  IntOp.addi (IntOp.addi (IntOp.addi (IntOp.addi (IntOp.addi (IntOp.addi (IntOp.addi
    (IntOp.shrsi .host (IntOp.andi x y) 7#32) (common x y 1#32)) (common x y 2#32)) (common x y 3#32))
    (common x y 4#32)) (common x y 5#32)) (common x y 6#32)) (common x y 7#32)

variable {a b : FVec Ideal S512x256 .f32} {l r k : IVec S65536 32} {s : FVec Ideal S65536 .f32}

/-- Moving a blade's word down. -/
theorem shift_word : ∀ i < 256, ∀ s < 8,
    IntOp.shrsi .host (BitVec.ofNat 32 i) (BitVec.ofNat 32 s) = BitVec.ofNat 32 (i >>> s) := by
  decide +kernel

/-- The bits two words have in common. -/
theorem and_word (i j : ℕ) :
    IntOp.andi (BitVec.ofNat 32 i) (BitVec.ofNat 32 j) = BitVec.ofNat 32 (i &&& j) := by
  apply BitVec.eq_of_toNat_eq
  show (BitVec.ofNat 32 i &&& BitVec.ofNat 32 j).toNat = _
  rw [BitVec.toNat_and, BitVec.toNat_ofNat, BitVec.toNat_ofNat, BitVec.toNat_ofNat,
    Nat.and_mod_two_pow]

/-- The parity of the number of bits set in a blade's word. -/
theorem count_word : ∀ i < 256, (IntOp.ctpop (BitVec.ofNat 32 i)).toNat % 2 = parity8 i := by
  decide +kernel

/-- The parity of the number of common bits. -/
theorem common_parity {i j s : ℕ} (hi : i < 256) (hj : j < 256) (hs : s < 8) :
    (common (BitVec.ofNat 32 i) (BitVec.ofNat 32 j) (BitVec.ofNat 32 s)).toNat % 2 =
      parity8 (i >>> s &&& j) := by
  unfold common
  rw [shift_word i hi s hs, and_word]
  exact count_word _ (lt_of_le_of_lt Nat.and_le_right hj)

/-- The parity of a sum of words. -/
theorem add_parity (x y : BitVec 32) : (IntOp.addi x y).toNat % 2 = (x.toNat + y.toNat) % 2 := by
  show (x + y).toNat % 2 = _
  rw [BitVec.toNat_add]
  omega

/-- The parity of the number of sign changes is the sign of the product of the blades. -/
theorem changes_parity {i j : ℕ} (hi : i < 256) (hj : j < 256) :
    (changes (BitVec.ofNat 32 i) (BitVec.ofNat 32 j)).toNat % 2 = negative i j := by
  have hij : i &&& j < 256 := lt_of_le_of_lt Nat.and_le_right hj
  have h0 : (IntOp.shrsi .host (IntOp.andi (BitVec.ofNat 32 i) (BitVec.ofNat 32 j)) 7#32).toNat =
      (i &&& j) >>> 7 := by
    rw [and_word]
    refine (congrArg BitVec.toNat (shift_word _ hij 7 (by decide))).trans ?_
    rw [BitVec.toNat_ofNat, Nat.mod_eq_of_lt]
    exact lt_of_le_of_lt (Nat.shiftRight_le _ _) (by omega)
  have h1 := common_parity hi hj (s := 1) (by decide)
  have h2 := common_parity hi hj (s := 2) (by decide)
  have h3 := common_parity hi hj (s := 3) (by decide)
  have h4 := common_parity hi hj (s := 4) (by decide)
  have h5 := common_parity hi hj (s := 5) (by decide)
  have h6 := common_parity hi hj (s := 6) (by decide)
  have h7 := common_parity hi hj (s := 7) (by decide)
  have sum : ∀ a b c d e f g h : ℕ, (a ^^^ b ^^^ c ^^^ d ^^^ e ^^^ f ^^^ g ^^^ h) % 2 =
      (a + b + c + d + e + f + g + h) % 2 := by
    intro a b c d e f g h
    rw [Nat.xor_mod_two_eq, Nat.add_mod, Nat.xor_mod_two_eq, ← Nat.add_mod, Nat.add_assoc, Nat.add_mod,
      Nat.xor_mod_two_eq, ← Nat.add_mod, Nat.add_assoc, Nat.add_mod, Nat.xor_mod_two_eq,
      ← Nat.add_mod, Nat.add_assoc, Nat.add_mod, Nat.xor_mod_two_eq, ← Nat.add_mod, Nat.add_assoc,
      Nat.add_mod, Nat.xor_mod_two_eq, ← Nat.add_mod, Nat.add_assoc, Nat.add_mod,
      Nat.xor_mod_two_eq, ← Nat.add_mod]
    congr 1
    omega
  unfold changes negative
  rw [Nat.and_one_is_mod, sum]
  simp only [add_parity, Nat.add_mod _ (BitVec.toNat _) 2]
  rw [← h1, ← h2, ← h3, ← h4, ← h5, ← h6, ← h7, h0]
  omega

/-- The first blade of pair `256 i + j` is `i`. -/
theorem left_word (i j : Fin 256) :
    left (BitVec.ofNat 32 (256 * i.val + j.val)) = BitVec.ofNat 32 i.val := by
  have hi := i.isLt
  have hj := j.isLt
  have ht : (BitVec.ofNat 32 (256 * i.val + j.val)).toNat = 256 * i.val + j.val := by
    rw [BitVec.toNat_ofNat]
    omega
  show (BitVec.ofNat 32 (256 * i.val + j.val)).sshiftRight 8 = _
  rw [BitVec.sshiftRight_eq_of_msb_false (by rw [BitVec.msb_eq_false_iff_two_mul_lt, ht]; omega)]
  apply BitVec.eq_of_toNat_eq
  rw [BitVec.toNat_ushiftRight, ht, BitVec.toNat_ofNat, Nat.shiftRight_eq_div_pow]
  omega

/-- The second blade of pair `256 i + j` is `j`. -/
theorem right_word (i j : Fin 256) :
    right (BitVec.ofNat 32 (256 * i.val + j.val)) = BitVec.ofNat 32 j.val := by
  have hj := j.isLt
  have h := Nat.and_two_pow_sub_one_eq_mod (256 * i.val + j.val) 8
  unfold right
  rw [and_word]
  refine congrArg _ (h.trans ?_)
  omega

/-- An extended real number whose absolute value is below infinity is a real number. -/
theorem real_of_bounded {x : EReal} (h : max x (-x) < Ideal.ofBits .f32 0x7F800000#32) :
    x = ((x.toReal : ℝ) : EReal) := by
  have h' : max x (-x) < ⊤ := lt_of_lt_of_le h le_top
  have h1 : x < ⊤ := lt_of_le_of_lt (le_max_left _ _) h'
  have h2 : -x < ⊤ := lt_of_le_of_lt (le_max_right _ _) h'
  refine (EReal.coe_toReal h1.ne ?_).symm
  rintro rfl
  exact absurd h2 (by simp)

variable {a b : FVec Ideal S512x256 .f32} {l r k : IVec S65536 32} {s : FVec Ideal S65536 .f32}

/-- A comparison of two words for equality holds only of equal words. -/
theorem eq_of_cmpi {x y : BitVec 32} (h : IntOp.cmpi .eq x y = 1#1) : x = y :=
  IntOp.cmpi_eq.1 h

/-- A Boolean whose bit is one is true. -/
theorem true_of_bit {p : Bool} (h : BitVec.ofBool p = 1#1) : p = true := by
  cases p
  · exact absurd h (by decide)
  · rfl

/-- The coefficients of the first argument are real numbers. -/
theorem first_real (h : (fn a b l r k s).1 = fun _ => 1#1) (i : Fin 512) (j : Fin 256) :
    a (ix2 i j) = (((a (ix2 i j)).toReal : ℝ) : EReal) := by
  have e : BitVec.ofBool (decide (max (a (ix2 i j)) (-a (ix2 i j)) <
      Ideal.ofBits .f32 0x7F800000#32)) = 1#1 := by
    rw [← congrFun h (ix2 i j)]
    pointwise [fn, fn_part1, fn_part2, fn_part3, fn_where]
    rfl
  exact real_of_bounded (of_decide_eq_true (true_of_bit e))

/-- The coefficients of the second argument are real numbers. -/
theorem second_real (h : (fn a b l r k s).2.1 = fun _ => 1#1) (i : Fin 512) (j : Fin 256) :
    b (ix2 i j) = (((b (ix2 i j)).toReal : ℝ) : EReal) := by
  have e : BitVec.ofBool (decide (max (b (ix2 i j)) (-b (ix2 i j)) <
      Ideal.ofBits .f32 0x7F800000#32)) = 1#1 := by
    rw [← congrFun h (ix2 i j)]
    pointwise [fn, fn_part1, fn_part2, fn_part3, fn_where]
    rfl
  exact real_of_bounded (of_decide_eq_true (true_of_bit e))

/-- The first blades of the pairs. -/
theorem left_apply (h : (fn a b l r k s).2.2.1 = fun _ => 1#1) (i j : Fin 256) :
    l (ix1 ⟨256 * i.val + j.val, by omega⟩) = BitVec.ofNat 32 i.val := by
  have e : IntOp.cmpi .eq (l (ix1 ⟨256 * i.val + j.val, by omega⟩))
      (left (BitVec.ofNat 32 (256 * i.val + j.val))) = 1#1 := by
    rw [← congrFun h (ix1 ⟨256 * i.val + j.val, by omega⟩)]
    pointwise [fn, fn_part1, fn_part2, fn_part3, fn_where, left]
  exact (eq_of_cmpi e).trans (left_word i j)

/-- The second blades of the pairs. -/
theorem right_apply (h : (fn a b l r k s).2.2.2.1 = fun _ => 1#1) (i j : Fin 256) :
    r (ix1 ⟨256 * i.val + j.val, by omega⟩) = BitVec.ofNat 32 j.val := by
  have e : IntOp.cmpi .eq (r (ix1 ⟨256 * i.val + j.val, by omega⟩))
      (right (BitVec.ofNat 32 (256 * i.val + j.val))) = 1#1 := by
    rw [← congrFun h (ix1 ⟨256 * i.val + j.val, by omega⟩)]
    pointwise [fn, fn_part1, fn_part2, fn_part3, fn_where, right]
  exact (eq_of_cmpi e).trans (right_word i j)

/-- The blades of the products of the pairs. -/
theorem product_apply (h : (fn a b l r k s).2.2.2.2.1 = fun _ => 1#1) (i j : Fin 256) :
    k (ix1 ⟨256 * i.val + j.val, by omega⟩) = BitVec.ofNat 32 (i.val ^^^ j.val) := by
  have e : IntOp.cmpi .eq (k (ix1 ⟨256 * i.val + j.val, by omega⟩))
      (IntOp.xori (left (BitVec.ofNat 32 (256 * i.val + j.val)))
        (right (BitVec.ofNat 32 (256 * i.val + j.val)))) = 1#1 := by
    rw [← congrFun h (ix1 ⟨256 * i.val + j.val, by omega⟩)]
    pointwise [fn, fn_part1, fn_part2, fn_part3, fn_where, left, right]
  rw [eq_of_cmpi e, left_word, right_word]
  apply BitVec.eq_of_toNat_eq
  show (BitVec.ofNat 32 i.val ^^^ BitVec.ofNat 32 j.val).toNat = _
  rw [BitVec.toNat_xor, BitVec.toNat_ofNat, BitVec.toNat_ofNat, BitVec.toNat_ofNat,
    Nat.xor_mod_two_pow]

/-- The signs of the products of the pairs. -/
theorem sign_apply (h : (fn a b l r k s).2.2.2.2.2 = fun _ => 1#1) (i j : Fin 256) :
    s (ix1 ⟨256 * i.val + j.val, by omega⟩) = (((-1) ^ negative i j : ℝ) : EReal) := by
  have e : BitVec.ofBool (decide (s (ix1 ⟨256 * i.val + j.val, by omega⟩) =
      Scalar.select (IntOp.cmpi .eq (IntOp.andi
        (changes (left (BitVec.ofNat 32 (256 * i.val + j.val)))
          (right (BitVec.ofNat 32 (256 * i.val + j.val)))) 1#32) 1#32)
        (Ideal.ofBits .f32 0xBF800000#32) (Ideal.ofBits .f32 0x3F800000#32))) = 1#1 := by
    rw [← congrFun h (ix1 ⟨256 * i.val + j.val, by omega⟩)]
    pointwise [fn, fn_part1, fn_part2, fn_part3, fn_where, changes, common, left, right]
  have hp := changes_parity i.isLt j.isLt
  rw [of_decide_eq_true (true_of_bit e), left_word, right_word, ← hp, ← sign_word
    (Nat.mod_lt _ (by decide))]
  generalize changes (BitVec.ofNat 32 i.val) (BitVec.ofNat 32 j.val) = w
  have hw : (IntOp.andi w 1#32).toNat = w.toNat % 2 := by
    show (w &&& 1#32).toNat = _
    rw [BitVec.toNat_and]
    exact Nat.and_one_is_mod _
  by_cases hz : w.toNat % 2 = 0
  · have hc : IntOp.cmpi .eq (IntOp.andi w 1#32) 1#32 = 0#1 := by
      refine ValueIdx.eq_zero_of_ne_one fun q => ?_
      have := congrArg BitVec.toNat (eq_of_cmpi q)
      rw [hw, hz] at this
      exact absurd this (by decide)
    rw [hc, hz]
    rfl
  · have hz' : w.toNat % 2 = 1 := by omega
    have hc : IntOp.cmpi .eq (IntOp.andi w 1#32) 1#32 = 1#1 :=
      IntOp.cmpi_eq.2 (BitVec.eq_of_toNat_eq (hw.trans hz'))
    rw [hc, hz']
    rfl

end Cert.Pre_cayley_arguments

end
-- ==== Proof.lean ====
/- The proof of the certificate's claim. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.KernelValue
public import proofs.«01_k».proof.Proof.RefValue
public import proofs.«01_k».proof.Proof.Pre
public import Idealize.ShloMosaic.Adequacy
public import Idealize.ShloMosaic.Init

@[expose] public section

noncomputable section

namespace Cert.Proof

attribute [local instance] Cert.Kernel.Gen.facts Cert.KernelIdeal.Gen.facts Cert.ReferenceIdeal.Gen.facts
  Cert.Pre_cayley_arguments.facts

open Idealize.ShloMosaic Idealize.SL.Sem

/-- The reference runs, leaves its six arguments unchanged, and ends with every semaphore counter at
    zero; it declares no semaphore. -/
theorem reference_frame : Cert.quiescent_ReferenceIdeal := fun m g _ =>
  (θ_run Cert.ReferenceIdeal.defs _ _).mono (fun r h => ⟨fun c => (h c).2,
      sem_eq_zero_of_no_sems (by decide) r.2⟩)
    (Cert.ReferenceIdeal.Value.run (F := Ideal) m g)

/-- A coefficient array read as real numbers, row by row. -/
def rows (x : FVec Ideal Cert.KernelIdeal.S512x256 .f32) : Fin 512 → Fin 256 → ℝ :=
  fun w j => (x (ix2 w j)).toReal

/-- The array that both programs end with: row by row the geometric product of `x` and `y`. -/
def product (x y : FVec Ideal Cert.KernelIdeal.S512x256 .f32) : FVec Ideal Cert.KernelIdeal.S512x256 .f32 :=
  fun i => ((Cert.Blades.geometric (rows x (i 0)) (rows y (i 0)) (i 1).val : ℝ) : EReal)

/-- The reference's result is the product, once the precondition holds. -/
theorem reference_product (a b : FVec Ideal Cert.KernelIdeal.S512x256 .f32)
    (l r k : IVec Cert.ReferenceIdeal.S65536 32) (s : FVec Ideal Cert.ReferenceIdeal.S65536 .f32)
    (p0 : (Cert.Pre_cayley_arguments.fn (F := Ideal) a b l r k s).1 = fun _ => 1#1)
    (p1 : (Cert.Pre_cayley_arguments.fn (F := Ideal) a b l r k s).2.1 = fun _ => 1#1)
    (p2 : (Cert.Pre_cayley_arguments.fn (F := Ideal) a b l r k s).2.2.1 = fun _ => 1#1)
    (p3 : (Cert.Pre_cayley_arguments.fn (F := Ideal) a b l r k s).2.2.2.1 = fun _ => 1#1)
    (p4 : (Cert.Pre_cayley_arguments.fn (F := Ideal) a b l r k s).2.2.2.2.1 = fun _ => 1#1)
    (p5 : (Cert.Pre_cayley_arguments.fn (F := Ideal) a b l r k s).2.2.2.2.2 = fun _ => 1#1) :
    Cert.ReferenceIdeal.Result.result a b l r k s = product a b := by
  funext i
  rw [← ix2_eta i]
  exact Cert.ReferenceIdeal.Result.result_eq (a' := rows a) (b' := rows b)
    (Cert.Pre_cayley_arguments.first_real p0) (Cert.Pre_cayley_arguments.second_real p1)
    (Cert.Pre_cayley_arguments.left_apply p2) (Cert.Pre_cayley_arguments.right_apply p3)
    (Cert.Pre_cayley_arguments.product_apply p4) (Cert.Pre_cayley_arguments.sign_apply p5) (i 0) (i 1)

/-- The kernel and the reference, read over the extended reals and started from equal arguments that
    satisfy the precondition, end with the same array: row by row the geometric product of the two
    coefficient arrays. -/
theorem algebraic : Cert.algebraic_KernelIdeal_ReferenceIdeal_pre_cayley_arguments := by
  intro m g m' g' hpre hagree
  refine ⟨fun c => product (m (c.tc.loc Cert.KernelIdeal.main_arg0)) (m (c.tc.loc Cert.KernelIdeal.main_arg1)),
    ?_, ?_⟩
  · refine (θ_run Cert.KernelIdeal.defs _ _).mono (fun r h c => ⟨(h c).1.trans ?_, (h c).2⟩)
      (Cert.KernelIdeal.Value.run_blocks (F := Ideal) m g)
    exact Cert.KernelIdeal.Result.final m c (rows (m (c.tc.loc Cert.KernelIdeal.main_arg0)))
      (rows (m (c.tc.loc Cert.KernelIdeal.main_arg1)))
      (Cert.Pre_cayley_arguments.first_real (hpre c).1)
      (Cert.Pre_cayley_arguments.second_real (hpre c).2.1)
  · refine (θ_run Cert.ReferenceIdeal.defs _ _).mono (fun r h c => ⟨(h c).1.trans ?_, (h c).2⟩)
      (Cert.ReferenceIdeal.Value.run (F := Ideal) m' g')
    obtain ⟨p0, p1, p2, p3, p4, p5⟩ := hpre c
    obtain ⟨h0, h1, h2, h3, h4, h5⟩ := hagree c
    rw [h0, h1, h2, h3, h4, h5]
    exact reference_product _ _ _ _ _ _ p0 p1 p2 p3 p4 p5

/-- The whole claim: the three programs run and leave their arguments and counters as they found
    them, the idealized kernel is the kernel's own text, and it computes what the reference computes. -/
theorem claim : Cert.Claim := ⟨Cert.Kernel.Gen.facts, Cert.KernelIdeal.Gen.facts, Cert.ReferenceIdeal.Gen.facts,
  Cert.Pre_cayley_arguments.facts, fun m g _ => Cert.Kernel.Gen.frame m g,
  fun m g _ => Cert.KernelIdeal.Gen.frame m g, fun m g _ => Cert.KernelIdeal.Gen.frame m g,
  reference_frame, fun m g _ => reference_frame m g trivial, trivial, algebraic⟩

end Cert.Proof

end
